-- ==== Defs.lean ====
def Pre_Kernel (m : (ℓ : Loc Cert.Kernel.nD Cert.Kernel.τ Cert.Kernel.sig) → Buf (Elt Bits) ℓ) : Prop :=
  True

def Pre_KernelIdeal [hPre_at_least_zero : Cert.Pre_at_least_zero.Facts] (m : (ℓ : Loc Cert.KernelIdeal.nD Cert.KernelIdeal.τ Cert.KernelIdeal.sig) → Buf (Elt Ideal) ℓ) : Prop :=
  ∀ c : Dev Cert.KernelIdeal.nD,
    (Cert.Pre_at_least_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_at_least_zero [hPre_at_least_zero : Cert.Pre_at_least_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_at_least_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] [hPre_at_least_zero : Cert.Pre_at_least_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_at_least_zero [hReferenceIdeal : Cert.ReferenceIdeal.Facts] [hPre_at_least_zero : Cert.Pre_at_least_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_at_least_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] [hPre_at_least_zero : Cert.Pre_at_least_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_at_least_zero : Cert.Pre_at_least_zero.Facts),
    quiescent_KernelIdeal (hKernelIdeal := hKernelIdeal) (hPre_at_least_zero := hPre_at_least_zero)
    ∧ quiescent_ReferenceIdeal (hReferenceIdeal := hReferenceIdeal)
    ∧ quiescent_ReferenceIdeal_pre_at_least_zero (hReferenceIdeal := hReferenceIdeal) (hPre_at_least_zero := hPre_at_least_zero)
    ∧ algebraic_KernelIdeal_ReferenceIdeal (hKernelIdeal := hKernelIdeal) (hReferenceIdeal := hReferenceIdeal) (hPre_at_least_zero := hPre_at_least_zero)
-- ==== Pre_at_least_zero.lean ====
abbrev S16x1x512x512 : Shape := ⟨4, ![16, 1, 512, 512]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel

variable [Facts]

def fn {F : FTy → Type} [FloatOps F] (main_arg0 : FVec F S16x1x512x512 .f32) (main_arg1 : FVec F S16x1x512x512 .f32) : IVec S_ 1 :=
  let main_cst : FVec F S_ .f32 := constant S_ .f32 0x00000000#32
  let main_v0 : FVec F S16x1x512x512 .f32 := broadcastInDim S16x1x512x512 ![] bcast_S_S16x1x512x512 main_cst
  let main_v1 : IVec S16x1x512x512 1 := cmpf .oge main_arg1 main_v0
  let main_c : IVec S_ 1 := constantI S_ 1 1#1
  let main_v2 : IVec S_ 1 := (fun x v => Host.reduce IntOp.andi x v reducesTo_S16x1x512x512_S_d0_1_2_3 h_S_) main_v1 main_c
  main_v2
-- ==== Kernel.lean ====
abbrev S16x1x512x512 : Shape := ⟨4, ![16, 1, 512, 512]⟩
abbrev S32x2x512 : Shape := ⟨3, ![32, 2, 512]⟩
abbrev S64x512 : Shape := ⟨2, ![64, 512]⟩
abbrev S512 : Shape := ⟨1, ![512]⟩
abbrev S_ : Shape := ⟨0, ![]⟩
abbrev S16 : Shape := ⟨1, ![16]⟩
abbrev S32x512 : Shape := ⟨2, ![32, 512]⟩
abbrev S1x1x32x512 : Shape := ⟨4, ![1, 1, 32, 512]⟩
abbrev S1x16 : Shape := ⟨2, ![1, 16]⟩
abbrev S1x1x512 : Shape := ⟨3, ![1, 1, 512]⟩
abbrev S2x512 : Shape := ⟨2, ![2, 512]⟩
abbrev S2x32x16 : Shape := ⟨3, ![2, 32, 16]⟩
abbrev S2x32 : Shape := ⟨2, ![2, 32]⟩
abbrev S1x31 : Shape := ⟨2, ![1, 31]⟩
abbrev S31 : Shape := ⟨1, ![31]⟩

abbrev nBuf : Table → Nat
  | .hbm => 29
  | .local .scVector .vmem => 4
  | _ => 0

abbrev bufTy : (tb : Table) → Fin (nBuf tb) → BufTy
  | .hbm, ⟨0, _⟩ => ⟨S16x1x512x512, .f32⟩
  | .hbm, ⟨1, _⟩ => ⟨S16x1x512x512, .f32⟩
  | .hbm, ⟨2, _⟩ => ⟨S32x2x512, .f32⟩
  | .hbm, ⟨3, _⟩ => ⟨S_, .f32⟩
  | .hbm, ⟨4, _⟩ => ⟨S2x512, .f32⟩
  | .hbm, ⟨5, _⟩ => ⟨S2x32x16, .f32⟩
  | .hbm, ⟨6, _⟩ => ⟨S_, .f32⟩
  | .hbm, ⟨7, _⟩ => ⟨S2x32, .f32⟩
  | .hbm, ⟨8, _⟩ => ⟨S1x31, .f32⟩
  | .hbm, ⟨9, _⟩ => ⟨S31, .f32⟩
  | .hbm, ⟨10, _⟩ => ⟨S1x31, .f32⟩
  | .hbm, ⟨11, _⟩ => ⟨S31, .f32⟩
  | .hbm, ⟨12, _⟩ => ⟨S_, .f32⟩
  | .hbm, ⟨13, _⟩ => ⟨S_, .f32⟩
  | .hbm, ⟨14, _⟩ => ⟨S31, .f32⟩
  | .hbm, ⟨15, _⟩ => ⟨S31, .f32⟩
  | .hbm, ⟨16, _⟩ => ⟨S_, .f32⟩
  | .hbm, ⟨17, _⟩ => ⟨S31, .f32⟩
  | .hbm, ⟨18, _⟩ => ⟨S31, .f32⟩
  | .hbm, ⟨19, _⟩ => ⟨S_, .f32⟩
  | .hbm, ⟨20, _⟩ => ⟨S31, .f32⟩
  | .hbm, ⟨21, _⟩ => ⟨S31, .f32⟩
  | .hbm, ⟨22, _⟩ => ⟨S_, .f32⟩
  | .hbm, ⟨23, _⟩ => ⟨S31, .f32⟩
  | .hbm, ⟨24, _⟩ => ⟨S31, .f32⟩
  | .hbm, ⟨25, _⟩ => ⟨S31, .f32⟩
  | .hbm, ⟨26, _⟩ => ⟨S_, .f32⟩
  | .hbm, ⟨27, _⟩ => ⟨S_, .f32⟩
  | .hbm, ⟨28, _⟩ => ⟨S_, .f32⟩
  | .local .scVector .vmem, ⟨0, _⟩ => ⟨S64x512, .f32⟩
  | .local .scVector .vmem, ⟨1, _⟩ => ⟨S64x512, .f32⟩
  | .local .scVector .vmem, ⟨2, _⟩ => ⟨S512, .f32⟩
  | .local .scVector .vmem, ⟨3, _⟩ => ⟨S512, .f32⟩
  | _, _ => ⟨S16x1x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_13 : BitVec 32 := 0#32
  let c32_i32 : BitVec 32 := 32#32
  let v32 : BitVec 32 := Scalar.addi c0_i32_13 c32_i32
  let c1_i32_14 : BitVec 32 := 1#32
  ⟨c0_i32_13, v32, c1_i32_14⟩
def k0_off1 (k0_t1 : Fin k0_t1_loop.trips) : Fin 1 → Nat :=
  let c0_i32_13 : BitVec 32 := 0#32
  let c1_i32_14 : BitVec 32 := 1#32
  let arg13 : BitVec 32 := Scf.iv c0_i32_13 c1_i32_14 k0_t1
  let c16_i32_37 : BitVec 32 := 16#32
  let v50 : BitVec 32 := Scalar.muli arg13 c16_i32_37
  let v51 : Index := Scalar.indexCast v50
  ![v51.toNat]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_17 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_16 : BitVec 32 := 0#32
  let v36 : BitVec 32 := Scalar.addi v29 c0_i32_16
  let c0_i32_20 : BitVec 32 := 0#32
  ![v18.toNat, 0, v36.toNat, 0]
@[reducible] def k0_t2_loop : Scf.Loop 32 :=
  let c0_i32_32 : BitVec 32 := 0#32
  let c8_i32 : BitVec 32 := 8#32
  let v49 : BitVec 32 := Scalar.addi c0_i32_32 c8_i32
  let c1_i32_33 : BitVec 32 := 1#32
  ⟨c0_i32_32, v49, c1_i32_33⟩
def k0_cond1 (k0_t2 : Fin k0_t2_loop.trips) : BitVec 1 :=
  let c0_i32_32 : BitVec 32 := 0#32
  let c1_i32_33 : BitVec 32 := 1#32
  let arg13 : BitVec 32 := Scf.iv c0_i32_32 c1_i32_33 k0_t2
  let c2_i32_37 : BitVec 32 := 2#32
  let v50 : BitVec 32 := Scalar.remsi arg13 c2_i32_37
  let c0_i32_38 : BitVec 32 := 0#32
  let v51 : BitVec 1 := Scalar.cmpi .eq v50 c0_i32_38
  let c1_i32_39 : BitVec 32 := 1#32
  let v52 : BitVec 32 := Scalar.addi arg13 c1_i32_39
  let c8_i32_40 : BitVec 32 := 8#32
  let v53 : BitVec 1 := Scalar.cmpi .slt v52 c8_i32_40
  let v54 : BitVec 1 := Scalar.andi v51 v53
  let v55 : BitVec 32 := Scalar.extui v54
  let c0_i32_41 : BitVec 32 := 0#32
  let v56 : BitVec 1 := Scalar.cmpi .ne v55 c0_i32_41
  v56

def k0_off3 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_54 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_32 : BitVec 32 := 0#32
  let c1_i32_33 : BitVec 32 := 1#32
  let arg13 : BitVec 32 := Scf.iv c0_i32_32 c1_i32_33 k0_t2
  let c1_i32_52 : BitVec 32 := 1#32
  let v68 : BitVec 32 := Scalar.addi arg13 c1_i32_52
  let c32_i32_53 : BitVec 32 := 32#32
  let v69 : BitVec 32 := Scalar.muli v68 c32_i32_53
  let v70 : BitVec 32 := Scalar.addi v29 v69
  let c0_i32_57 : BitVec 32 := 0#32
  ![v18.toNat, 0, v70.toNat, 0]
def k0_cond2 (k0_t2 : Fin k0_t2_loop.trips) : BitVec 1 :=
  let c0_i32_32 : BitVec 32 := 0#32
  let c1_i32_33 : BitVec 32 := 1#32
  let arg13 : BitVec 32 := Scf.iv c0_i32_32 c1_i32_33 k0_t2
  let c2_i32_37 : BitVec 32 := 2#32
  let v50 : BitVec 32 := Scalar.remsi arg13 c2_i32_37
  let c0_i32_38 : BitVec 32 := 0#32
  let v51 : BitVec 1 := Scalar.cmpi .eq v50 c0_i32_38
  let v_true : BitVec 1 := 1#1
  let v57 : BitVec 1 := Scalar.xori v51 v_true
  let c1_i32_39 : BitVec 32 := 1#32
  let v52 : BitVec 32 := Scalar.addi arg13 c1_i32_39
  let c8_i32_40 : BitVec 32 := 8#32
  let v53 : BitVec 1 := Scalar.cmpi .slt v52 c8_i32_40
  let v58 : BitVec 1 := Scalar.andi v57 v53
  let v59 : BitVec 32 := Scalar.extui v58
  let c0_i32_42 : BitVec 32 := 0#32
  let v60 : BitVec 1 := Scalar.cmpi .ne v59 c0_i32_42
  v60

def k0_off4 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_54 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_32 : BitVec 32 := 0#32
  let c1_i32_33 : BitVec 32 := 1#32
  let arg13 : BitVec 32 := Scf.iv c0_i32_32 c1_i32_33 k0_t2
  let c1_i32_52 : BitVec 32 := 1#32
  let v68 : BitVec 32 := Scalar.addi arg13 c1_i32_52
  let c32_i32_53 : BitVec 32 := 32#32
  let v69 : BitVec 32 := Scalar.muli v68 c32_i32_53
  let v70 : BitVec 32 := Scalar.addi v29 v69
  let c0_i32_57 : BitVec 32 := 0#32
  ![v18.toNat, 0, v70.toNat, 0]
@[reducible] def k0_t3_loop : Scf.Loop 32 :=
  let c0_i32_48 : BitVec 32 := 0#32
  let c32_i32_49 : BitVec 32 := 32#32
  let v67 : BitVec 32 := Scalar.addi c0_i32_48 c32_i32_49
  let c1_i32_50 : BitVec 32 := 1#32
  ⟨c0_i32_48, v67, c1_i32_50⟩
def k0_off5 (k0_t2 : Fin k0_t2_loop.trips) (k0_t3 : Fin k0_t3_loop.trips) (c0_i32_65 : BitVec 32) : Fin 2 → Nat :=
  let c0_i32_32 : BitVec 32 := 0#32
  let c1_i32_33 : BitVec 32 := 1#32
  let arg13 : BitVec 32 := Scf.iv c0_i32_32 c1_i32_33 k0_t2
  let c2_i32_37 : BitVec 32 := 2#32
  let v50 : BitVec 32 := Scalar.remsi arg13 c2_i32_37
  let c32_i32_46 : BitVec 32 := 32#32
  let v66 : BitVec 32 := Scalar.muli v50 c32_i32_46
  let c0_i32_48 : BitVec 32 := 0#32
  let c1_i32_50 : BitVec 32 := 1#32
  let arg14 : BitVec 32 := Scf.iv c0_i32_48 c1_i32_50 k0_t3
  let c0_i32_53 : BitVec 32 := 0#32
  let v69 : BitVec 1 := Scalar.cmpi .sgt arg14 c0_i32_53
  let v70 : BitVec 32 := Scalar.extui v69
  let c0_i32_54 : BitVec 32 := 0#32
  let v71 : BitVec 1 := Scalar.cmpi .slt arg14 c0_i32_54
  let v72 : BitVec 32 := Scalar.extui v71
  let v73 : BitVec 32 := Scalar.subi v70 v72
  let c1_i32_52 : BitVec 32 := 1#32
  let c0_i32_55 : BitVec 32 := 0#32
  let v74 : BitVec 1 := Scalar.cmpi .sgt c1_i32_52 c0_i32_55
  let v75 : BitVec 32 := Scalar.extui v74
  let c0_i32_56 : BitVec 32 := 0#32
  let v76 : BitVec 1 := Scalar.cmpi .slt c1_i32_52 c0_i32_56
  let v77 : BitVec 32 := Scalar.extui v76
  let v78 : BitVec 32 := Scalar.subi v75 v77
  let v79 : BitVec 1 := Scalar.cmpi .ne v73 v78
  let v80 : BitVec 32 := Scalar.remsi arg14 c1_i32_52
  let c0_i32_57 : BitVec 32 := 0#32
  let v81 : BitVec 1 := Scalar.cmpi .ne v80 c0_i32_57
  let v82 : BitVec 1 := Scalar.andi v79 v81
  let v68 : BitVec 32 := Scalar.divsi arg14 c1_i32_52
  let c1_i32_58 : BitVec 32 := 1#32
  let v83 : BitVec 32 := Scalar.subi v68 c1_i32_58
  let v84 : BitVec 32 := Scalar.select v82 v83 v68
  let v85 : BitVec 32 := Scalar.addi v66 v84
  let v98 : Index := Scalar.indexCast v85
  let c1_i32_59 : BitVec 32 := 1#32
  let c0_i32_60 : BitVec 32 := 0#32
  let v86 : BitVec 1 := Scalar.cmpi .eq c1_i32_59 c0_i32_60
  let c1_i32_61 : BitVec 32 := 1#32
  let v87 : BitVec 32 := Scalar.select v86 c1_i32_61 c1_i32_59
  let v88 : BitVec 32 := Scalar.remsi arg14 v87
  let c0_i32_63 : BitVec 32 := 0#32
  let v90 : BitVec 1 := Scalar.cmpi .slt v88 c0_i32_63
  let c0_i32_64 : BitVec 32 := 0#32
  let v91 : BitVec 1 := Scalar.cmpi .slt v87 c0_i32_64
  let v92 : BitVec 1 := Scalar.xori v90 v91
  let c0_i32_62 : BitVec 32 := 0#32
  let v89 : BitVec 1 := Scalar.cmpi .ne v88 c0_i32_62
  let v93 : BitVec 1 := Scalar.andi v92 v89
  let v94 : BitVec 32 := Scalar.addi v88 v87
  let v95 : BitVec 32 := Scalar.select v93 v94 v88
  let c512_i32 : BitVec 32 := 512#32
  let v96 : BitVec 32 := Scalar.muli v95 c512_i32
  let v97 : BitVec 32 := Scalar.addi v96 c0_i32_65
  let v99 : Index := Scalar.indexCast v97
  ![v98.toNat, v99.toNat]

def k0_chk1 (v483 : IVec S16 32) : Prop :=
  (∀ a x, ((![v483] : Fin 1 → IVec S16 32) a x).toNat < S512.size a) ∧
  (∀ a x, ((![v483] : Fin 1 → IVec S16 32) a x).toNat < S512.size a)
theorem k0_idx1_inb : ∀ (v483 : IVec S16 32) (k0_hw1 : k0_chk1 v483), ∀ a x, ((![v483] : Fin 1 → IVec S16 32) a x).toNat < S512.size a := fun v483 k0_hw1 => k0_hw1.1
theorem k0_idx2_inb : ∀ (v483 : IVec S16 32) (k0_hw1 : k0_chk1 v483), ∀ a x, ((![v483] : Fin 1 → IVec S16 32) a x).toNat < S512.size a := fun v483 k0_hw1 => k0_hw1.2

def k0_chk2 (v486 : IVec S16 32) : Prop :=
  (∀ a x, ((![v486] : Fin 1 → IVec S16 32) a x).toNat < S512.size a) ∧
  (∀ a x, ((![v486] : Fin 1 → IVec S16 32) a x).toNat < S512.size a)
theorem k0_idx3_inb : ∀ (v486 : IVec S16 32) (k0_hw2 : k0_chk2 v486), ∀ a x, ((![v486] : Fin 1 → IVec S16 32) a x).toNat < S512.size a := fun v486 k0_hw2 => k0_hw2.1
theorem k0_idx4_inb : ∀ (v486 : IVec S16 32) (k0_hw2 : k0_chk2 v486), ∀ a x, ((![v486] : Fin 1 → IVec S16 32) a x).toNat < S512.size a := fun v486 k0_hw2 => k0_hw2.2

def k0_chk3 (v489 : IVec S16 32) : Prop :=
  (∀ a x, ((![v489] : Fin 1 → IVec S16 32) a x).toNat < S512.size a) ∧
  (∀ a x, ((![v489] : Fin 1 → IVec S16 32) a x).toNat < S512.size a)
theorem k0_idx5_inb : ∀ (v489 : IVec S16 32) (k0_hw3 : k0_chk3 v489), ∀ a x, ((![v489] : Fin 1 → IVec S16 32) a x).toNat < S512.size a := fun v489 k0_hw3 => k0_hw3.1
theorem k0_idx6_inb : ∀ (v489 : IVec S16 32) (k0_hw3 : k0_chk3 v489), ∀ a x, ((![v489] : Fin 1 → IVec S16 32) a x).toNat < S512.size a := fun v489 k0_hw3 => k0_hw3.2

def k0_chk4 (v492 : IVec S16 32) : Prop :=
  (∀ a x, ((![v492] : Fin 1 → IVec S16 32) a x).toNat < S512.size a) ∧
  (∀ a x, ((![v492] : Fin 1 → IVec S16 32) a x).toNat < S512.size a)
theorem k0_idx7_inb : ∀ (v492 : IVec S16 32) (k0_hw4 : k0_chk4 v492), ∀ a x, ((![v492] : Fin 1 → IVec S16 32) a x).toNat < S512.size a := fun v492 k0_hw4 => k0_hw4.1
theorem k0_idx8_inb : ∀ (v492 : IVec S16 32) (k0_hw4 : k0_chk4 v492), ∀ a x, ((![v492] : Fin 1 → IVec S16 32) a x).toNat < S512.size a := fun v492 k0_hw4 => k0_hw4.2

def k0_chk5 (v495 : IVec S16 32) : Prop :=
  (∀ a x, ((![v495] : Fin 1 → IVec S16 32) a x).toNat < S512.size a) ∧
  (∀ a x, ((![v495] : Fin 1 → IVec S16 32) a x).toNat < S512.size a)
theorem k0_idx9_inb : ∀ (v495 : IVec S16 32) (k0_hw5 : k0_chk5 v495), ∀ a x, ((![v495] : Fin 1 → IVec S16 32) a x).toNat < S512.size a := fun v495 k0_hw5 => k0_hw5.1
theorem k0_idx10_inb : ∀ (v495 : IVec S16 32) (k0_hw5 : k0_chk5 v495), ∀ a x, ((![v495] : Fin 1 → IVec S16 32) a x).toNat < S512.size a := fun v495 k0_hw5 => k0_hw5.2

def k0_chk6 (v498 : IVec S16 32) : Prop :=
  (∀ a x, ((![v498] : Fin 1 → IVec S16 32) a x).toNat < S512.size a) ∧
  (∀ a x, ((![v498] : Fin 1 → IVec S16 32) a x).toNat < S512.size a)
theorem k0_idx11_inb : ∀ (v498 : IVec S16 32) (k0_hw6 : k0_chk6 v498), ∀ a x, ((![v498] : Fin 1 → IVec S16 32) a x).toNat < S512.size a := fun v498 k0_hw6 => k0_hw6.1
theorem k0_idx12_inb : ∀ (v498 : IVec S16 32) (k0_hw6 : k0_chk6 v498), ∀ a x, ((![v498] : Fin 1 → IVec S16 32) a x).toNat < S512.size a := fun v498 k0_hw6 => k0_hw6.2

def k0_chk7 (v501 : IVec S16 32) : Prop :=
  (∀ a x, ((![v501] : Fin 1 → IVec S16 32) a x).toNat < S512.size a) ∧
  (∀ a x, ((![v501] : Fin 1 → IVec S16 32) a x).toNat < S512.size a)
theorem k0_idx13_inb : ∀ (v501 : IVec S16 32) (k0_hw7 : k0_chk7 v501), ∀ a x, ((![v501] : Fin 1 → IVec S16 32) a x).toNat < S512.size a := fun v501 k0_hw7 => k0_hw7.1
theorem k0_idx14_inb : ∀ (v501 : IVec S16 32) (k0_hw7 : k0_chk7 v501), ∀ a x, ((![v501] : Fin 1 → IVec S16 32) a x).toNat < S512.size a := fun v501 k0_hw7 => k0_hw7.2

def k0_chk8 (v504 : IVec S16 32) : Prop :=
  (∀ a x, ((![v504] : Fin 1 → IVec S16 32) a x).toNat < S512.size a) ∧
  (∀ a x, ((![v504] : Fin 1 → IVec S16 32) a x).toNat < S512.size a)
theorem k0_idx15_inb : ∀ (v504 : IVec S16 32) (k0_hw8 : k0_chk8 v504), ∀ a x, ((![v504] : Fin 1 → IVec S16 32) a x).toNat < S512.size a := fun v504 k0_hw8 => k0_hw8.1
theorem k0_idx16_inb : ∀ (v504 : IVec S16 32) (k0_hw8 : k0_chk8 v504), ∀ a x, ((![v504] : Fin 1 → IVec S16 32) a x).toNat < S512.size a := fun v504 k0_hw8 => k0_hw8.2

def k0_chk9 (v507 : IVec S16 32) : Prop :=
  (∀ a x, ((![v507] : Fin 1 → IVec S16 32) a x).toNat < S512.size a) ∧
  (∀ a x, ((![v507] : Fin 1 → IVec S16 32) a x).toNat < S512.size a)
theorem k0_idx17_inb : ∀ (v507 : IVec S16 32) (k0_hw9 : k0_chk9 v507), ∀ a x, ((![v507] : Fin 1 → IVec S16 32) a x).toNat < S512.size a := fun v507 k0_hw9 => k0_hw9.1
theorem k0_idx18_inb : ∀ (v507 : IVec S16 32) (k0_hw9 : k0_chk9 v507), ∀ a x, ((![v507] : Fin 1 → IVec S16 32) a x).toNat < S512.size a := fun v507 k0_hw9 => k0_hw9.2

def k0_chk10 (v510 : IVec S16 32) : Prop :=
  (∀ a x, ((![v510] : Fin 1 → IVec S16 32) a x).toNat < S512.size a) ∧
  (∀ a x, ((![v510] : Fin 1 → IVec S16 32) a x).toNat < S512.size a)
theorem k0_idx19_inb : ∀ (v510 : IVec S16 32) (k0_hw10 : k0_chk10 v510), ∀ a x, ((![v510] : Fin 1 → IVec S16 32) a x).toNat < S512.size a := fun v510 k0_hw10 => k0_hw10.1
theorem k0_idx20_inb : ∀ (v510 : IVec S16 32) (k0_hw10 : k0_chk10 v510), ∀ a x, ((![v510] : Fin 1 → IVec S16 32) a x).toNat < S512.size a := fun v510 k0_hw10 => k0_hw10.2

def k0_chk11 (v513 : IVec S16 32) : Prop :=
  (∀ a x, ((![v513] : Fin 1 → IVec S16 32) a x).toNat < S512.size a) ∧
  (∀ a x, ((![v513] : Fin 1 → IVec S16 32) a x).toNat < S512.size a)
theorem k0_idx21_inb : ∀ (v513 : IVec S16 32) (k0_hw11 : k0_chk11 v513), ∀ a x, ((![v513] : Fin 1 → IVec S16 32) a x).toNat < S512.size a := fun v513 k0_hw11 => k0_hw11.1
theorem k0_idx22_inb : ∀ (v513 : IVec S16 32) (k0_hw11 : k0_chk11 v513), ∀ a x, ((![v513] : Fin 1 → IVec S16 32) a x).toNat < S512.size a := fun v513 k0_hw11 => k0_hw11.2

def k0_chk12 (v516 : IVec S16 32) : Prop :=
  (∀ a x, ((![v516] : Fin 1 → IVec S16 32) a x).toNat < S512.size a) ∧
  (∀ a x, ((![v516] : Fin 1 → IVec S16 32) a x).toNat < S512.size a)
theorem k0_idx23_inb : ∀ (v516 : IVec S16 32) (k0_hw12 : k0_chk12 v516), ∀ a x, ((![v516] : Fin 1 → IVec S16 32) a x).toNat < S512.size a := fun v516 k0_hw12 => k0_hw12.1
theorem k0_idx24_inb : ∀ (v516 : IVec S16 32) (k0_hw12 : k0_chk12 v516), ∀ a x, ((![v516] : Fin 1 → IVec S16 32) a x).toNat < S512.size a := fun v516 k0_hw12 => k0_hw12.2

def k0_chk13 (v519 : IVec S16 32) : Prop :=
  (∀ a x, ((![v519] : Fin 1 → IVec S16 32) a x).toNat < S512.size a) ∧
  (∀ a x, ((![v519] : Fin 1 → IVec S16 32) a x).toNat < S512.size a)
theorem k0_idx25_inb : ∀ (v519 : IVec S16 32) (k0_hw13 : k0_chk13 v519), ∀ a x, ((![v519] : Fin 1 → IVec S16 32) a x).toNat < S512.size a := fun v519 k0_hw13 => k0_hw13.1
theorem k0_idx26_inb : ∀ (v519 : IVec S16 32) (k0_hw13 : k0_chk13 v519), ∀ a x, ((![v519] : Fin 1 → IVec S16 32) a x).toNat < S512.size a := fun v519 k0_hw13 => k0_hw13.2

def k0_chk14 (v522 : IVec S16 32) : Prop :=
  (∀ a x, ((![v522] : Fin 1 → IVec S16 32) a x).toNat < S512.size a) ∧
  (∀ a x, ((![v522] : Fin 1 → IVec S16 32) a x).toNat < S512.size a)
theorem k0_idx27_inb : ∀ (v522 : IVec S16 32) (k0_hw14 : k0_chk14 v522), ∀ a x, ((![v522] : Fin 1 → IVec S16 32) a x).toNat < S512.size a := fun v522 k0_hw14 => k0_hw14.1
theorem k0_idx28_inb : ∀ (v522 : IVec S16 32) (k0_hw14 : k0_chk14 v522), ∀ a x, ((![v522] : Fin 1 → IVec S16 32) a x).toNat < S512.size a := fun v522 k0_hw14 => k0_hw14.2

def k0_chk15 (v525 : IVec S16 32) : Prop :=
  (∀ a x, ((![v525] : Fin 1 → IVec S16 32) a x).toNat < S512.size a) ∧
  (∀ a x, ((![v525] : Fin 1 → IVec S16 32) a x).toNat < S512.size a)
theorem k0_idx29_inb : ∀ (v525 : IVec S16 32) (k0_hw15 : k0_chk15 v525), ∀ a x, ((![v525] : Fin 1 → IVec S16 32) a x).toNat < S512.size a := fun v525 k0_hw15 => k0_hw15.1
theorem k0_idx30_inb : ∀ (v525 : IVec S16 32) (k0_hw15 : k0_chk15 v525), ∀ a x, ((![v525] : Fin 1 → IVec S16 32) a x).toNat < S512.size a := fun v525 k0_hw15 => k0_hw15.2

def k0_chk16 (v528 : IVec S16 32) : Prop :=
  (∀ a x, ((![v528] : Fin 1 → IVec S16 32) a x).toNat < S512.size a) ∧
  (∀ a x, ((![v528] : Fin 1 → IVec S16 32) a x).toNat < S512.size a)
theorem k0_idx31_inb : ∀ (v528 : IVec S16 32) (k0_hw16 : k0_chk16 v528), ∀ a x, ((![v528] : Fin 1 → IVec S16 32) a x).toNat < S512.size a := fun v528 k0_hw16 => k0_hw16.1
theorem k0_idx32_inb : ∀ (v528 : IVec S16 32) (k0_hw16 : k0_chk16 v528), ∀ a x, ((![v528] : Fin 1 → IVec S16 32) a x).toNat < S512.size a := fun v528 k0_hw16 => k0_hw16.2

def k0_chk17 (v531 : IVec S16 32) : Prop :=
  (∀ a x, ((![v531] : Fin 1 → IVec S16 32) a x).toNat < S512.size a) ∧
  (∀ a x, ((![v531] : Fin 1 → IVec S16 32) a x).toNat < S512.size a)
theorem k0_idx33_inb : ∀ (v531 : IVec S16 32) (k0_hw17 : k0_chk17 v531), ∀ a x, ((![v531] : Fin 1 → IVec S16 32) a x).toNat < S512.size a := fun v531 k0_hw17 => k0_hw17.1
theorem k0_idx34_inb : ∀ (v531 : IVec S16 32) (k0_hw17 : k0_chk17 v531), ∀ a x, ((![v531] : Fin 1 → IVec S16 32) a x).toNat < S512.size a := fun v531 k0_hw17 => k0_hw17.2

def k0_chk18 (v534 : IVec S16 32) : Prop :=
  (∀ a x, ((![v534] : Fin 1 → IVec S16 32) a x).toNat < S512.size a) ∧
  (∀ a x, ((![v534] : Fin 1 → IVec S16 32) a x).toNat < S512.size a)
theorem k0_idx35_inb : ∀ (v534 : IVec S16 32) (k0_hw18 : k0_chk18 v534), ∀ a x, ((![v534] : Fin 1 → IVec S16 32) a x).toNat < S512.size a := fun v534 k0_hw18 => k0_hw18.1
theorem k0_idx36_inb : ∀ (v534 : IVec S16 32) (k0_hw18 : k0_chk18 v534), ∀ a x, ((![v534] : Fin 1 → IVec S16 32) a x).toNat < S512.size a := fun v534 k0_hw18 => k0_hw18.2

def k0_chk19 (v537 : IVec S16 32) : Prop :=
  (∀ a x, ((![v537] : Fin 1 → IVec S16 32) a x).toNat < S512.size a) ∧
  (∀ a x, ((![v537] : Fin 1 → IVec S16 32) a x).toNat < S512.size a)
theorem k0_idx37_inb : ∀ (v537 : IVec S16 32) (k0_hw19 : k0_chk19 v537), ∀ a x, ((![v537] : Fin 1 → IVec S16 32) a x).toNat < S512.size a := fun v537 k0_hw19 => k0_hw19.1
theorem k0_idx38_inb : ∀ (v537 : IVec S16 32) (k0_hw19 : k0_chk19 v537), ∀ a x, ((![v537] : Fin 1 → IVec S16 32) a x).toNat < S512.size a := fun v537 k0_hw19 => k0_hw19.2

def k0_chk20 (v540 : IVec S16 32) : Prop :=
  (∀ a x, ((![v540] : Fin 1 → IVec S16 32) a x).toNat < S512.size a) ∧
  (∀ a x, ((![v540] : Fin 1 → IVec S16 32) a x).toNat < S512.size a)
theorem k0_idx39_inb : ∀ (v540 : IVec S16 32) (k0_hw20 : k0_chk20 v540), ∀ a x, ((![v540] : Fin 1 → IVec S16 32) a x).toNat < S512.size a := fun v540 k0_hw20 => k0_hw20.1
theorem k0_idx40_inb : ∀ (v540 : IVec S16 32) (k0_hw20 : k0_chk20 v540), ∀ a x, ((![v540] : Fin 1 → IVec S16 32) a x).toNat < S512.size a := fun v540 k0_hw20 => k0_hw20.2

def k0_chk21 (v543 : IVec S16 32) : Prop :=
  (∀ a x, ((![v543] : Fin 1 → IVec S16 32) a x).toNat < S512.size a) ∧
  (∀ a x, ((![v543] : Fin 1 → IVec S16 32) a x).toNat < S512.size a)
theorem k0_idx41_inb : ∀ (v543 : IVec S16 32) (k0_hw21 : k0_chk21 v543), ∀ a x, ((![v543] : Fin 1 → IVec S16 32) a x).toNat < S512.size a := fun v543 k0_hw21 => k0_hw21.1
theorem k0_idx42_inb : ∀ (v543 : IVec S16 32) (k0_hw21 : k0_chk21 v543), ∀ a x, ((![v543] : Fin 1 → IVec S16 32) a x).toNat < S512.size a := fun v543 k0_hw21 => k0_hw21.2

def k0_chk22 (v546 : IVec S16 32) : Prop :=
  (∀ a x, ((![v546] : Fin 1 → IVec S16 32) a x).toNat < S512.size a) ∧
  (∀ a x, ((![v546] : Fin 1 → IVec S16 32) a x).toNat < S512.size a)
theorem k0_idx43_inb : ∀ (v546 : IVec S16 32) (k0_hw22 : k0_chk22 v546), ∀ a x, ((![v546] : Fin 1 → IVec S16 32) a x).toNat < S512.size a := fun v546 k0_hw22 => k0_hw22.1
theorem k0_idx44_inb : ∀ (v546 : IVec S16 32) (k0_hw22 : k0_chk22 v546), ∀ a x, ((![v546] : Fin 1 → IVec S16 32) a x).toNat < S512.size a := fun v546 k0_hw22 => k0_hw22.2

def k0_chk23 (v549 : IVec S16 32) : Prop :=
  (∀ a x, ((![v549] : Fin 1 → IVec S16 32) a x).toNat < S512.size a) ∧
  (∀ a x, ((![v549] : Fin 1 → IVec S16 32) a x).toNat < S512.size a)
theorem k0_idx45_inb : ∀ (v549 : IVec S16 32) (k0_hw23 : k0_chk23 v549), ∀ a x, ((![v549] : Fin 1 → IVec S16 32) a x).toNat < S512.size a := fun v549 k0_hw23 => k0_hw23.1
theorem k0_idx46_inb : ∀ (v549 : IVec S16 32) (k0_hw23 : k0_chk23 v549), ∀ a x, ((![v549] : Fin 1 → IVec S16 32) a x).toNat < S512.size a := fun v549 k0_hw23 => k0_hw23.2

def k0_chk24 (v552 : IVec S16 32) : Prop :=
  (∀ a x, ((![v552] : Fin 1 → IVec S16 32) a x).toNat < S512.size a) ∧
  (∀ a x, ((![v552] : Fin 1 → IVec S16 32) a x).toNat < S512.size a)
theorem k0_idx47_inb : ∀ (v552 : IVec S16 32) (k0_hw24 : k0_chk24 v552), ∀ a x, ((![v552] : Fin 1 → IVec S16 32) a x).toNat < S512.size a := fun v552 k0_hw24 => k0_hw24.1
theorem k0_idx48_inb : ∀ (v552 : IVec S16 32) (k0_hw24 : k0_chk24 v552), ∀ a x, ((![v552] : Fin 1 → IVec S16 32) a x).toNat < S512.size a := fun v552 k0_hw24 => k0_hw24.2

def k0_chk25 (v555 : IVec S16 32) : Prop :=
  (∀ a x, ((![v555] : Fin 1 → IVec S16 32) a x).toNat < S512.size a) ∧
  (∀ a x, ((![v555] : Fin 1 → IVec S16 32) a x).toNat < S512.size a)
theorem k0_idx49_inb : ∀ (v555 : IVec S16 32) (k0_hw25 : k0_chk25 v555), ∀ a x, ((![v555] : Fin 1 → IVec S16 32) a x).toNat < S512.size a := fun v555 k0_hw25 => k0_hw25.1
theorem k0_idx50_inb : ∀ (v555 : IVec S16 32) (k0_hw25 : k0_chk25 v555), ∀ a x, ((![v555] : Fin 1 → IVec S16 32) a x).toNat < S512.size a := fun v555 k0_hw25 => k0_hw25.2

def k0_chk26 (v558 : IVec S16 32) : Prop :=
  (∀ a x, ((![v558] : Fin 1 → IVec S16 32) a x).toNat < S512.size a) ∧
  (∀ a x, ((![v558] : Fin 1 → IVec S16 32) a x).toNat < S512.size a)
theorem k0_idx51_inb : ∀ (v558 : IVec S16 32) (k0_hw26 : k0_chk26 v558), ∀ a x, ((![v558] : Fin 1 → IVec S16 32) a x).toNat < S512.size a := fun v558 k0_hw26 => k0_hw26.1
theorem k0_idx52_inb : ∀ (v558 : IVec S16 32) (k0_hw26 : k0_chk26 v558), ∀ a x, ((![v558] : Fin 1 → IVec S16 32) a x).toNat < S512.size a := fun v558 k0_hw26 => k0_hw26.2

def k0_chk27 (v561 : IVec S16 32) : Prop :=
  (∀ a x, ((![v561] : Fin 1 → IVec S16 32) a x).toNat < S512.size a) ∧
  (∀ a x, ((![v561] : Fin 1 → IVec S16 32) a x).toNat < S512.size a)
theorem k0_idx53_inb : ∀ (v561 : IVec S16 32) (k0_hw27 : k0_chk27 v561), ∀ a x, ((![v561] : Fin 1 → IVec S16 32) a x).toNat < S512.size a := fun v561 k0_hw27 => k0_hw27.1
theorem k0_idx54_inb : ∀ (v561 : IVec S16 32) (k0_hw27 : k0_chk27 v561), ∀ a x, ((![v561] : Fin 1 → IVec S16 32) a x).toNat < S512.size a := fun v561 k0_hw27 => k0_hw27.2

def k0_chk28 (v564 : IVec S16 32) : Prop :=
  (∀ a x, ((![v564] : Fin 1 → IVec S16 32) a x).toNat < S512.size a) ∧
  (∀ a x, ((![v564] : Fin 1 → IVec S16 32) a x).toNat < S512.size a)
theorem k0_idx55_inb : ∀ (v564 : IVec S16 32) (k0_hw28 : k0_chk28 v564), ∀ a x, ((![v564] : Fin 1 → IVec S16 32) a x).toNat < S512.size a := fun v564 k0_hw28 => k0_hw28.1
theorem k0_idx56_inb : ∀ (v564 : IVec S16 32) (k0_hw28 : k0_chk28 v564), ∀ a x, ((![v564] : Fin 1 → IVec S16 32) a x).toNat < S512.size a := fun v564 k0_hw28 => k0_hw28.2

def k0_chk29 (v567 : IVec S16 32) : Prop :=
  (∀ a x, ((![v567] : Fin 1 → IVec S16 32) a x).toNat < S512.size a) ∧
  (∀ a x, ((![v567] : Fin 1 → IVec S16 32) a x).toNat < S512.size a)
theorem k0_idx57_inb : ∀ (v567 : IVec S16 32) (k0_hw29 : k0_chk29 v567), ∀ a x, ((![v567] : Fin 1 → IVec S16 32) a x).toNat < S512.size a := fun v567 k0_hw29 => k0_hw29.1
theorem k0_idx58_inb : ∀ (v567 : IVec S16 32) (k0_hw29 : k0_chk29 v567), ∀ a x, ((![v567] : Fin 1 → IVec S16 32) a x).toNat < S512.size a := fun v567 k0_hw29 => k0_hw29.2

def k0_chk30 (v570 : IVec S16 32) : Prop :=
  (∀ a x, ((![v570] : Fin 1 → IVec S16 32) a x).toNat < S512.size a) ∧
  (∀ a x, ((![v570] : Fin 1 → IVec S16 32) a x).toNat < S512.size a)
theorem k0_idx59_inb : ∀ (v570 : IVec S16 32) (k0_hw30 : k0_chk30 v570), ∀ a x, ((![v570] : Fin 1 → IVec S16 32) a x).toNat < S512.size a := fun v570 k0_hw30 => k0_hw30.1
theorem k0_idx60_inb : ∀ (v570 : IVec S16 32) (k0_hw30 : k0_chk30 v570), ∀ a x, ((![v570] : Fin 1 → IVec S16 32) a x).toNat < S512.size a := fun v570 k0_hw30 => k0_hw30.2

def k0_chk31 (v573 : IVec S16 32) : Prop :=
  (∀ a x, ((![v573] : Fin 1 → IVec S16 32) a x).toNat < S512.size a) ∧
  (∀ a x, ((![v573] : Fin 1 → IVec S16 32) a x).toNat < S512.size a)
theorem k0_idx61_inb : ∀ (v573 : IVec S16 32) (k0_hw31 : k0_chk31 v573), ∀ a x, ((![v573] : Fin 1 → IVec S16 32) a x).toNat < S512.size a := fun v573 k0_hw31 => k0_hw31.1
theorem k0_idx62_inb : ∀ (v573 : IVec S16 32) (k0_hw31 : k0_chk31 v573), ∀ a x, ((![v573] : Fin 1 → IVec S16 32) a x).toNat < S512.size a := fun v573 k0_hw31 => k0_hw31.2

def k0_chk32 (v576 : IVec S16 32) : Prop :=
  (∀ a x, ((![v576] : Fin 1 → IVec S16 32) a x).toNat < S512.size a) ∧
  (∀ a x, ((![v576] : Fin 1 → IVec S16 32) a x).toNat < S512.size a)
theorem k0_idx63_inb : ∀ (v576 : IVec S16 32) (k0_hw32 : k0_chk32 v576), ∀ a x, ((![v576] : Fin 1 → IVec S16 32) a x).toNat < S512.size a := fun v576 k0_hw32 => k0_hw32.1
theorem k0_idx64_inb : ∀ (v576 : IVec S16 32) (k0_hw32 : k0_chk32 v576), ∀ a x, ((![v576] : Fin 1 → IVec S16 32) a x).toNat < S512.size a := fun v576 k0_hw32 => k0_hw32.2
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35 : BitVec 32 := 0#32
  let c0_i32_37_r0 : BitVec 32 := 0#32
  ![v1.toNat, 0, 0]
def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_36 : BitVec 32 := 1#32
  let c0_i32_37_r1 : BitVec 32 := 0#32
  ![v1.toNat, 1, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1x512x512 : Shape := ⟨4, ![16, 1, 512, 512]⟩
abbrev S_ : Shape := ⟨0, ![]⟩
abbrev S4194304 : Shape := ⟨1, ![4194304]⟩
abbrev S31 : Shape := ⟨1, ![31]⟩
abbrev S4194304x1 : Shape := ⟨2, ![4194304, 1]⟩
abbrev S16x1x512x512x1 : Shape := ⟨5, ![16, 1, 512, 512, 1]⟩

abbrev nBuf : Space → Nat
  | .hbm => 67
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S_, .f32⟩
  | .hbm, ⟨3, _⟩ => ⟨S16x1x512x512, .f32⟩
  | .hbm, ⟨4, _⟩ => ⟨S16x1x512x512, .i1⟩
  | .hbm, ⟨5, _⟩ => ⟨S16x1x512x512, .f32⟩
  | .hbm, ⟨6, _⟩ => ⟨S_, .f32⟩
  | .hbm, ⟨7, _⟩ => ⟨S_, .f32⟩
  | .hbm, ⟨8, _⟩ => ⟨S16x1x512x512, .f32⟩
  | .hbm, ⟨9, _⟩ => ⟨S16x1x512x512, .f32⟩
  | .hbm, ⟨10, _⟩ => ⟨S16x1x512x512, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16x1x512x512, .i32⟩
  | .hbm, ⟨15, _⟩ => ⟨S16x1x512x512, .i32⟩
  | .hbm, ⟨16, _⟩ => ⟨S_, .i32⟩
  | .hbm, ⟨17, _⟩ => ⟨S16x1x512x512, .i32⟩
  | .hbm, ⟨18, _⟩ => ⟨S16x1x512x512, .i32⟩
  | .hbm, ⟨19, _⟩ => ⟨S_, .i32⟩
  | .hbm, ⟨20, _⟩ => ⟨S_, .i32⟩
  | .hbm, ⟨21, _⟩ => ⟨S16x1x512x512, .i32⟩
  | .hbm, ⟨22, _⟩ => ⟨S16x1x512x512, .i32⟩
  | .hbm, ⟨23, _⟩ => ⟨S4194304, .i32⟩
  | .hbm, ⟨24, _⟩ => ⟨S4194304, .f32⟩
  | .hbm, ⟨25, _⟩ => ⟨S_, .f32⟩
  | .hbm, ⟨26, _⟩ => ⟨S31, .f32⟩
  | .hbm, ⟨27, _⟩ => ⟨S_, .i32⟩
  | .hbm, ⟨28, _⟩ => ⟨S_, .i32⟩
  | .hbm, ⟨29, _⟩ => ⟨S4194304, .i32⟩
  | .hbm, ⟨30, _⟩ => ⟨S4194304, .i32⟩
  | .hbm, ⟨31, _⟩ => ⟨S_, .i32⟩
  | .hbm, ⟨32, _⟩ => ⟨S4194304, .i32⟩
  | .hbm, ⟨33, _⟩ => ⟨S4194304, .i1⟩
  | .hbm, ⟨34, _⟩ => ⟨S_, .i32⟩
  | .hbm, ⟨35, _⟩ => ⟨S4194304, .i32⟩
  | .hbm, ⟨36, _⟩ => ⟨S4194304, .i32⟩
  | .hbm, ⟨37, _⟩ => ⟨S4194304, .i32⟩
  | .hbm, ⟨38, _⟩ => ⟨S4194304x1, .i32⟩
  | .hbm, ⟨39, _⟩ => ⟨S31, .f32⟩
  | .hbm, ⟨40, _⟩ => ⟨S31, .f32⟩
  | .hbm, ⟨41, _⟩ => ⟨S31, .f32⟩
  | .hbm, ⟨42, _⟩ => ⟨S_, .f32⟩
  | .hbm, ⟨43, _⟩ => ⟨S31, .f32⟩
  | .hbm, ⟨44, _⟩ => ⟨S31, .f32⟩
  | .hbm, ⟨45, _⟩ => ⟨S_, .f32⟩
  | .hbm, ⟨46, _⟩ => ⟨S31, .f32⟩
  | .hbm, ⟨47, _⟩ => ⟨S31, .f32⟩
  | .hbm, ⟨48, _⟩ => ⟨S_, .f32⟩
  | .hbm, ⟨49, _⟩ => ⟨S31, .f32⟩
  | .hbm, ⟨50, _⟩ => ⟨S31, .f32⟩
  | .hbm, ⟨51, _⟩ => ⟨S16x1x512x512, .f32⟩
  | .hbm, ⟨52, _⟩ => ⟨S16x1x512x512, .f32⟩
  | .hbm, ⟨53, _⟩ => ⟨S_, .i32⟩
  | .hbm, ⟨54, _⟩ => ⟨S16x1x512x512, .i32⟩
  | .hbm, ⟨55, _⟩ => ⟨S16x1x512x512, .i1⟩
  | .hbm, ⟨56, _⟩ => ⟨S_, .i32⟩
  | .hbm, ⟨57, _⟩ => ⟨S16x1x512x512, .i32⟩
  | .hbm, ⟨58, _⟩ => ⟨S16x1x512x512, .i32⟩
  | .hbm, ⟨59, _⟩ => ⟨S16x1x512x512, .i32⟩
  | .hbm, ⟨60, _⟩ => ⟨S16x1x512x512x1, .i32⟩
  | .hbm, ⟨61, _⟩ => ⟨S16x1x512x512, .f32⟩
  | .hbm, ⟨62, _⟩ => ⟨S16x1x512x512, .f32⟩
  | .hbm, ⟨63, _⟩ => ⟨S16x1x512x512, .f32⟩
  | .hbm, ⟨64, _⟩ => ⟨S_, .f32⟩
  | .hbm, ⟨65, _⟩ => ⟨S_, .f32⟩
  | .hbm, ⟨66, _⟩ => ⟨S_, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_c_4 : Ref sig .tc := ⟨.hbm, 27, rfl⟩
abbrev main_call2_v0 : Ref sig .tc := ⟨.hbm, 28, rfl⟩
abbrev main_call2_v1 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_c_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_c_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Proof.Arith.lean ====
/-
  The kernel's offset chains and branch conditions in closed form, over the ranges of their binders: which image
  row a chunk starts at, which staging row and lane block an inner trip reads, and which trips of the outer loop
  start a copy into which half of the staging buffers.
-/
module

public import proofs.«01_k».proof.Proof.Gen.KernelIdeal
public import proofs.«01_k».proof.Proof.Gen.KernelIdeal.Skeleton
public import Idealize.ShloMosaic.Lib.Exec

@[expose] public section

namespace Cert.Proof.Hist

open Cert.KernelIdeal Cert.KernelIdeal.Gen
open Idealize.ShloMosaic

/-- The outer loop runs eight trips. -/
theorem t2_trips : k0_t2_loop.trips = 8 := by decide +kernel
/-- The inner loop runs thirty-two trips. -/
theorem t3_trips : k0_t3_loop.trips = 32 := by decide +kernel
/-- The zeroing loop runs thirty-two trips. -/
theorem t1_trips : k0_t1_loop.trips = 32 := by decide +kernel

/-- The first chunk starts at row `256 * core` of image `subcore`. -/
theorem off2_eq : ∀ i : grid0.Coords, k0_off2 i = ![(i 1).val, 0, 256 * (i 0).val, 0] := by decide +kernel
/-- The chunk an even outer trip starts is the next one: 32 rows further per trip. -/
theorem off3_eq : ∀ (i : grid0.Coords) (t : Fin k0_t2_loop.trips),
    k0_off3 i t = ![(i 1).val, 0, 256 * (i 0).val + 32 * (t.val + 1), 0] := by decide +kernel
/-- The chunk an odd outer trip starts is the next one. -/
theorem off4_eq : ∀ (i : grid0.Coords) (t : Fin k0_t2_loop.trips),
    k0_off4 i t = ![(i 1).val, 0, 256 * (i 0).val + 32 * (t.val + 1), 0] := by decide +kernel
/-- The lane block an inner trip reads adds nothing to the word the load names it by. -/
theorem off5_lane : ∀ (u : Fin k0_t3_loop.trips), k0_off5 ⟨0, by decide +kernel⟩ u 0#32 = ![u.val, 0] := by decide +kernel
/-- The staging row an inner trip reads: the row in the half of the buffers the outer trip's parity picks. -/
theorem off5_row : ∀ (t : Fin k0_t2_loop.trips) (u : Fin k0_t3_loop.trips), k0_off5 t u 0#32 0 = 32 * (t.val % 2) + u.val := by decide +kernel
/-- An inner trip reads staging row `32 * (outer trip mod 2) + inner trip`, at the lane block the load names. -/
theorem off5_eq (t : Fin k0_t2_loop.trips) (u : Fin k0_t3_loop.trips) (w : BitVec 32) :
    k0_off5 t u w = ![32 * (t.val % 2) + u.val, w.toNat] := by
  have hz : ∀ z : BitVec 32, z.toNat = 0 → ((z + w).toNat = w.toNat) := fun z hz => by
    obtain rfl : z = 0#32 := BitVec.eq_of_toNat_eq (by simpa using hz)
    simp
  funext a
  match a with
  | ⟨0, _⟩ => exact off5_row t u
  | ⟨1, _⟩ =>
    refine hz _ ?_
    have h := congrFun (off5_lane u) 1
    have hz' : ∀ z : BitVec 32, (z + 0#32).toNat = 0 → z.toNat = 0 := fun z hz => by simpa using hz
    exact hz' _ h

/-- The even-trip start is taken at even trips that are not the last. -/
theorem cond1_iff : ∀ t : Fin k0_t2_loop.trips, k0_cond1 t = 1#1 ↔ t.val % 2 = 0 := by decide +kernel
/-- The odd-trip start is taken at odd trips but the last. -/
theorem cond2_iff : ∀ t : Fin k0_t2_loop.trips, k0_cond2 t = 1#1 ↔ (t.val % 2 = 1 ∧ t.val < 7) := by decide +kernel

instance closedOff_off2 (i : grid0.Coords) : ClosedOff (k0_off2 i) := ⟨_, off2_eq i⟩
instance closedOff_off3 (i : grid0.Coords) (t : Fin k0_t2_loop.trips) : ClosedOff (k0_off3 i t) := ⟨_, off3_eq i t⟩
instance closedOff_off4 (i : grid0.Coords) (t : Fin k0_t2_loop.trips) : ClosedOff (k0_off4 i t) := ⟨_, off4_eq i t⟩
instance closedOff_off5 (t : Fin k0_t2_loop.trips) (u : Fin k0_t3_loop.trips) (w : BitVec 32) : ClosedOff (k0_off5 t u w) := ⟨_, off5_eq t u w⟩

end Cert.Proof.Hist
-- ==== Proof.Spec.lean ====
/-
  What a tile computes, as plain functions of the two images: the 16-lane blocks of its pixels in the order the
  kernel visits them, the histogram cells a block of target pixels goes to, and the two private histograms after the
  first `n` blocks. Written over any float type.
-/
module

public import proofs.«01_k».proof.Proof.Arith
public import Idealize.ShloMosaic.Lib.SparseCore.Ops
public import Idealize.ShloMosaic.Lib.ValueIdxCore

@[expose] public section

noncomputable section

namespace Cert.Proof.Hist

open Cert.KernelIdeal Cert.KernelIdeal.Gen
open Idealize.ShloMosaic Idealize.ShloMosaic.ValueIdx

variable {F : FTy → Type} [FloatOps F]

/-- The image element at image `s`, row `r`, column `x` (row and column taken within the image). -/
def px (A : Vec F S16x1x512x512 .f32) (s : Fin 16) (r x : ℕ) : Elt F .f32 :=
  A (ix4 s (0 : Fin 1) (Fin.ofNat 512 r) (Fin.ofNat 512 x))

/-- Sixteen pixels of the tile on core `c`, subcore `s`: from column `x` of its row `row`, as one row of lanes. -/
def lanes (A : Vec F S16x1x512x512 .f32) (c : Fin 2) (s : Fin 16) (row x : ℕ) : Vec F S1x16 .f32 :=
  fun j => px A s (256 * c.val + row) (x + (j 1).val)

/-- The same as a vector of sixteen. -/
def blk (A : Vec F S16x1x512x512 .f32) (c : Fin 2) (s : Fin 16) (row x : ℕ) : Vec F S16 .f32 :=
  shapeCast S16 (lanes A c s row x) shapeCasts_S1x16_S16

/-- What the half of a staging buffer that chunk `g` lands in holds: rows `256c + 32g …` of image `s`. -/
def tileBuf (A : Vec F S16x1x512x512 .f32) (c : Fin 2) (s : Fin 16) (g : ℕ) : Vec F S64x512 .f32 :=
  fun y => px A s (256 * c.val + 32 * g + (y 0).val % 32) (y 1).val

/-- Lane `l` of it is `l - 16`: the lane's offset inside a histogram bin, one bin below. -/
def laneOff : IVec S16 32 := k0_pay193 (iota .scVector S16 32 [0] iota_S16_d0_w32_scVector) 16#32

/-- The histogram cells of a block of target pixels. -/
def cells (t : Vec F S16 .f32) : IVec S16 32 :=
  addi (muli (minsi (fptosi 32 (exp (F := F) (φ := .f32) t)) (broadcast S16 31#32)) (broadcast S16 16#32)) laneOff

/-- The absolute differences of a block. -/
def diffs (p t : Vec F S16 .f32) : Vec F S16 .f32 := absf (F := F) (φ := .f32) (subf (F := F) (φ := .f32) p t)

/-- The ones the pixels are counted by. -/
def ones : Vec F S16 .f32 := k0_pay192 (F := F)

/-- Every cell of the block lies in the histogram. -/
def InRange (ix : IVec S16 32) : Prop := ∀ x, (ix x).toNat < 512

theorem InRange.inb {ix : IVec S16 32} (h : InRange ix) : ∀ (a : Fin 1) (x : S16.Idx), ((![ix] : Fin 1 → IVec S16 32) a x).toNat < S512.size a := by
  intro a x
  obtain rfl : a = 0 := Subsingleton.elim _ _
  exact h x

/-- One scatter-add of a block of values at a block of cells; nothing, were a cell outside. -/
def scat (f : Vec F S512 .f32) (ix : IVec S16 32) (v : Vec F S16 .f32) : Vec F S512 .f32 :=
  open Classical in
  if h : InRange ix then storeIdx f ![ix] v (fun _ => 1#1) true h.inb else f

theorem scat_eq {ix : IVec S16 32} (h : ∀ (a : Fin 1) (x : S16.Idx), ((![ix] : Fin 1 → IVec S16 32) a x).toNat < S512.size a) (f : Vec F S512 .f32) (v : Vec F S16 .f32) :
    storeIdx f ![ix] v (fun _ => 1#1) true h = scat f ix v := by
  have h' : InRange ix := fun x => h 0 x
  unfold scat
  rw [dif_pos h']

/-- A private histogram carried through the first `u` blocks of a row: the values `v` are added at the cells of the
    target pixels. -/
def partH (T : Vec F S16x1x512x512 .f32) (c : Fin 2) (s : Fin 16) (v : ℕ → ℕ → Vec F S16 .f32) (row : ℕ) (f : Vec F S512 .f32) :
    ℕ → Vec F S512 .f32
  | 0 => f
  | u + 1 => scat (partH T c s v row f u) (cells (blk T c s row (16 * u))) (v row (16 * u))

/-- A private histogram after the first `n` rows. -/
def hist (T : Vec F S16x1x512x512 .f32) (c : Fin 2) (s : Fin 16) (v : ℕ → ℕ → Vec F S16 .f32) : ℕ → Vec F S512 .f32
  | 0 => fun _ => (k0_pay191 (F := F)) (ix1 (0 : Fin 16))
  | n + 1 => partH T c s v n (hist T c s v n) 32

/-- The values the sums add up: the absolute differences. -/
def dif (P T : Vec F S16x1x512x512 .f32) (c : Fin 2) (s : Fin 16) (row x : ℕ) : Vec F S16 .f32 :=
  diffs (blk P c s row x) (blk T c s row x)
/-- The values the counts add up: ones. -/
def one (_ _ : ℕ) : Vec F S16 .f32 := ones

/-- The counts after `n` rows. -/
def cntH (T : Vec F S16x1x512x512 .f32) (c : Fin 2) (s : Fin 16) (n : ℕ) : Vec F S512 .f32 := hist T c s one n
/-- The sums of absolute differences after `n` rows. -/
def sumH (P T : Vec F S16x1x512x512 .f32) (c : Fin 2) (s : Fin 16) (n : ℕ) : Vec F S512 .f32 := hist T c s (dif P T c s) n

/-- Every pixel goes to a cell of the histogram. -/
def AllIn (T : Vec F S16x1x512x512 .f32) : Prop := ∀ (c : Fin 2) (s : Fin 16) (row x : ℕ), InRange (cells (blk T c s row x))

/-- The result array: tile `2s + c`'s counts in its row 0 and its sums in its row 1. -/
def outV (P T : Vec F S16x1x512x512 .f32) : Vec F S32x2x512 .f32 := fun y =>
  if (y 1).val = 0 then cntH T (Fin.ofNat 2 (y 0).val) (Fin.ofNat 16 ((y 0).val / 2)) 256 (ix1 (y 2))
  else sumH P T (Fin.ofNat 2 (y 0).val) (Fin.ofNat 16 ((y 0).val / 2)) 256 (ix1 (y 2))

end Cert.Proof.Hist
-- ==== Proof.Common.lean ====
/-
  The launch set-up of the histogram kernel: the program as the launch theorem sees it, the resource algebra, and the
  names of a tile's buffers, views and cells.
-/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the SparseCore call's semaphores and buffers. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

/-- The handshakes' rounds, the left factor of the user algebra. -/
abbrev EH : Emb UH (MT nD τ sig (HIx 1) (Elt F) ℕ UU ℕ) := embL

/-! ## A tile's coordinates, buffers and cells -/

abbrev cV (L : grid0.Coords) : Fin τ.nSC := (L 0).castLE hcore0
abbrev jV (L : grid0.Coords) : Fin τ.nSub := (L 1).castLE hsub0
/-- The tile on core `c`, subcore `s`, as a thread. -/
abbrev thr (d : Dev nD) (L : grid0.Coords) : Thread nD τ := V d (cV L) (jV L)
/-- Its core and its subcore as plain numbers of the value functions. -/
abbrev coreOf (L : grid0.Coords) : Fin 2 := L 0
abbrev subOf (L : grid0.Coords) : Fin 16 := L 1

/-- A loop bound read as a numeral: the half of the staging buffers of a parity is inside them. -/
theorem slot_inb (b : Fin 2) : ∀ a, (![32 * b.val, 0] : Fin 2 → ℕ) a + S32x512.size a ≤ S64x512.size a := by
  revert b; decide
/-- The half of a staging buffer of a parity, as a rectangle. -/
abbrev slotR (b : Fin 2) : Rect S64x512 := Rect.unit (s := S64x512) ![32 * b.val, 0] S32x512.size (slot_inb b)

end Cert.Proof.Hist
-- ==== Proof.Inner.lean ====
/-
  One trip of the kernel's inner loop: the 64 loads of a row of both staging buffers, the checks of the cells, and the
  64 scatter-adds.
-/
module

public import proofs.«01_k».proof.Proof.Common
@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "pW" => (Memref.whole Cert.KernelIdeal.main_arg0_scv : Memref Cert.KernelIdeal.sig Kind.scVector Space.hbm Cert.KernelIdeal.S16x1x512x512 EltTy.f32)
local notation "tW" => (Memref.whole Cert.KernelIdeal.main_arg1_scv : Memref Cert.KernelIdeal.sig Kind.scVector Space.hbm Cert.KernelIdeal.S16x1x512x512 EltTy.f32)
local notation "oW" => (Memref.whole Cert.KernelIdeal.main_v0_scv : Memref Cert.KernelIdeal.sig Kind.scVector Space.hbm Cert.KernelIdeal.S32x2x512 EltTy.f32)
local notation "pB" => (Memref.whole Cert.KernelIdeal.cc0_scratch0 : Memref Cert.KernelIdeal.sig Kind.scVector Space.vmem Cert.KernelIdeal.S64x512 EltTy.f32)
local notation "tB" => (Memref.whole Cert.KernelIdeal.cc0_scratch1 : Memref Cert.KernelIdeal.sig Kind.scVector Space.vmem Cert.KernelIdeal.S64x512 EltTy.f32)
local notation "cB" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S512 EltTy.f32)

variable (d : Dev nD) (L : grid0.Coords)

/-- The elements of a staging buffer in the half of parity `b`. -/
def half (b : ℕ) : Finset S64x512.Idx := Finset.univ.filter fun y => (y 0).val / 32 = b

/-- What a tile holds during the inner loop of outer trip `g`: the two landed halves, the counts and the sums. -/
def St (P T : Vec F S16x1x512x512 .f32) (g : ℕ) (fc fs : Vec F S512 .f32) : sProp 𝕄 :=
  iprop(((pB).view.loc (thr d L) ↦[half (g % 2)]{fullShare} tileBuf P (coreOf L) (subOf L) g)
      ∗ ((tB).view.loc (thr d L) ↦[half (g % 2)]{fullShare} tileBuf T (coreOf L) (subOf L) g)
      ∗ ((cB).view.loc (thr d L) ↦{fullShare} fc) ∗ ((sB).view.loc (thr d L) ↦{fullShare} fs))

local notation "WP" => wp frame (wpE (defs₀ (F := F)) 𝒱₀ (thr d L) none) Set.univ

/-- A program runs its first part, then the rest. -/
theorem bind_step {α β : Type} {R : sProp 𝕄} {Q : β → sProp 𝕄} {p : Prog (TpuEff nD τ sig (Elt F) Λ₀ (thr d L).2) α} {k : α → Prog (TpuEff nD τ sig (Elt F) Λ₀ (thr d L).2) β}
    (h : R ⊢ WP p fun a => WP (k a) Q) : R ⊢ WP (p >>= k) Q := by
  rw [wp_bind]; exact h

/-- A program that returns at once. -/
theorem ret_step {β : Type} {R : sProp 𝕄} {Q : β → sProp 𝕄} {a : β} (h : R ⊢ Q a) : R ⊢ WP (Pure.pure a) Q := by
  rw [wp_pure]; exact h.trans fupd_intro

/-- A check of a fact that holds. -/
theorem chk_step {β : Type} {R : sProp 𝕄} {Q : β → sProp 𝕄} {p : Prop} {dp : Decidable p} {k : PLift p → Prog (TpuEff nD τ sig (Elt F) Λ₀ (thr d L).2) β} (hp : p)
    (h : R ⊢ WP (k ⟨hp⟩) Q) : R ⊢ WP (Prog.lift (TpuEff.assume p dp) >>= k) Q :=
  h.trans (Entails.of_eq (wp_assume_of 𝒱₀ (thr d L) none Set.univ (k := k) hp).symm)

/-! ## The loads -/

/-- The lanes an inner trip loads lie in the half its outer trip works on. -/
theorem lanes_half (t2 : Fin k0_t2_loop.trips) (t3 : Fin k0_t3_loop.trips) (w : BitVec 32)
    (inb : ∀ a, (k0_off5 t2 t3 w) a + S1x16.size a ≤ S64x512.size a) :
    (Rect.unit (s := S64x512) (k0_off5 t2 t3 w) S1x16.size inb).toLoadRect.set ⊆ half (t2.val % 2) := by
  intro y hy
  have h3 : t3.val < 32 := lt_of_lt_of_eq t3.isLt t3_trips
  rw [LoadRect.mem_set] at hy
  obtain ⟨j, hj, e⟩ := hy 0
  have hj' : j < 1 := hj
  have e' : (y 0).val = k0_off5 t2 t3 w 0 + 1 * j := e
  rw [off5_eq] at e'
  have e'' : (y 0).val = 32 * (t2.val % 2) + t3.val + 1 * j := e'
  simp only [half, Finset.mem_filter, Finset.mem_univ, true_and]
  omega

/-- What an inner trip loads from a landed half: sixteen pixels of the row. -/
theorem lanes_read (A : Vec F S16x1x512x512 .f32) (t2 : Fin k0_t2_loop.trips) (t3 : Fin k0_t3_loop.trips) (w : BitVec 32)
    (inb : ∀ a, (k0_off5 t2 t3 w) a + S1x16.size a ≤ S64x512.size a) :
    (fun j => tileBuf A (coreOf L) (subOf L) t2.val ((Rect.unit (s := S64x512) (k0_off5 t2 t3 w) S1x16.size inb).toLoadRect.idx j))
      = lanes A (coreOf L) (subOf L) (32 * t2.val + t3.val) w.toNat := by
  have h3 : t3.val < 32 := lt_of_lt_of_eq t3.isLt t3_trips
  funext j
  have hj : (j 0).val < 1 := (j 0).isLt
  have e0 : (((Rect.unit (s := S64x512) (k0_off5 t2 t3 w) S1x16.size inb).toLoadRect.idx j) 0).val = k0_off5 t2 t3 w 0 + 1 * (j 0).val := rfl
  have e1 : (((Rect.unit (s := S64x512) (k0_off5 t2 t3 w) S1x16.size inb).toLoadRect.idx j) 1).val = k0_off5 t2 t3 w 1 + 1 * (j 1).val := rfl
  have o0 : k0_off5 t2 t3 w 0 = 32 * (t2.val % 2) + t3.val := by rw [off5_eq]; rfl
  have o1 : k0_off5 t2 t3 w 1 = w.toNat := by rw [off5_eq]; rfl
  unfold tileBuf lanes
  rw [e0, e1, o0, o1]
  congr 1 <;> omega

/-- A load of sixteen target pixels of the row. -/
theorem tgt_step {β : Type} {Q : β → sProp 𝕄} {P T : Vec F S16x1x512x512 .f32} {t2 : Fin k0_t2_loop.trips} {t3 : Fin k0_t3_loop.trips} {fc fs : Vec F S512 .f32}
    {w : BitVec 32} {inb : ∀ a, (k0_off5 t2 t3 w) a + S1x16.size a ≤ S64x512.size a}
    {hl : (tB).view.LoadsAt (Rect.unit (s := S64x512) (k0_off5 t2 t3 w) S1x16.size inb).toLoadRect}
    {k : Vec F S1x16 .f32 → Prog (TpuEff nD τ sig (Elt F) Λ₀ (thr d L).2) β}
    (h : St d L P T t2.val fc fs ⊢ WP (k (lanes T (coreOf L) (subOf L) (32 * t2.val + t3.val) w.toNat)) Q) :
    St d L P T t2.val fc fs ⊢ WP (Prog.lift (TpuEff.load (tB) (Rect.unit (s := S64x512) (k0_off5 t2 t3 w) S1x16.size inb).toLoadRect hl) >>= k) Q := by
  have hS : (tB).view.setOn (Rect.unit (s := S64x512) (k0_off5 t2 t3 w) S1x16.size inb).toLoadRect.set ⊆ half (t2.val % 2) := by
    rw [show (tB).view.setOn (Rect.unit (s := S64x512) (k0_off5 t2 t3 w) S1x16.size inb).toLoadRect.set
      = (Rect.unit (s := S64x512) (k0_off5 t2 t3 w) S1x16.size inb).toLoadRect.set from Finset.map_refl]
    exact lanes_half t2 t3 w inb
  change St d L P T t2.val fc fs ⊢ WP (Prog.op (TpuEff.load (tB) (Rect.unit (s := S64x512) (k0_off5 t2 t3 w) S1x16.size inb).toLoadRect hl) k) Q
  unfold St at h ⊢
  iintro ⟨Hp, Ht, Hr⟩
  iapply (wp_load (defs := defs₀ (F := F)) 𝒱₀ (thr d L) none Set.univ (m := (tB)) (hl := hl) (k := k) (Q := Q) hS) $$ Ht
  iintro Ht
  rw [show (tB).view.readAt (Elt F) (Rect.unit (s := S64x512) (k0_off5 t2 t3 w) S1x16.size inb).toLoadRect (tileBuf T (coreOf L) (subOf L) t2.val)
    = lanes T (coreOf L) (subOf L) (32 * t2.val + t3.val) w.toNat from lanes_read L T t2 t3 w inb]
  iapply h
  iframe

/-- A load of sixteen predicted pixels of the row. -/
theorem prd_step {β : Type} {Q : β → sProp 𝕄} {P T : Vec F S16x1x512x512 .f32} {t2 : Fin k0_t2_loop.trips} {t3 : Fin k0_t3_loop.trips} {fc fs : Vec F S512 .f32}
    {w : BitVec 32} {inb : ∀ a, (k0_off5 t2 t3 w) a + S1x16.size a ≤ S64x512.size a}
    {hl : (pB).view.LoadsAt (Rect.unit (s := S64x512) (k0_off5 t2 t3 w) S1x16.size inb).toLoadRect}
    {k : Vec F S1x16 .f32 → Prog (TpuEff nD τ sig (Elt F) Λ₀ (thr d L).2) β}
    (h : St d L P T t2.val fc fs ⊢ WP (k (lanes P (coreOf L) (subOf L) (32 * t2.val + t3.val) w.toNat)) Q) :
    St d L P T t2.val fc fs ⊢ WP (Prog.lift (TpuEff.load (pB) (Rect.unit (s := S64x512) (k0_off5 t2 t3 w) S1x16.size inb).toLoadRect hl) >>= k) Q := by
  have hS : (pB).view.setOn (Rect.unit (s := S64x512) (k0_off5 t2 t3 w) S1x16.size inb).toLoadRect.set ⊆ half (t2.val % 2) := by
    rw [show (pB).view.setOn (Rect.unit (s := S64x512) (k0_off5 t2 t3 w) S1x16.size inb).toLoadRect.set
      = (Rect.unit (s := S64x512) (k0_off5 t2 t3 w) S1x16.size inb).toLoadRect.set from Finset.map_refl]
    exact lanes_half t2 t3 w inb
  change St d L P T t2.val fc fs ⊢ WP (Prog.op (TpuEff.load (pB) (Rect.unit (s := S64x512) (k0_off5 t2 t3 w) S1x16.size inb).toLoadRect hl) k) Q
  unfold St at h ⊢
  iintro ⟨Hp, Ht, Hr⟩
  iapply (wp_load (defs := defs₀ (F := F)) 𝒱₀ (thr d L) none Set.univ (m := (pB)) (hl := hl) (k := k) (Q := Q) hS) $$ Hp
  iintro Hp
  rw [show (pB).view.readAt (Elt F) (Rect.unit (s := S64x512) (k0_off5 t2 t3 w) S1x16.size inb).toLoadRect (tileBuf P (coreOf L) (subOf L) t2.val)
    = lanes P (coreOf L) (subOf L) (32 * t2.val + t3.val) w.toNat from lanes_read L P t2 t3 w inb]
  iapply h
  iframe

/-! ## The scatter-adds -/

/-- The sums held whole, as the scatter-add addresses them. -/
theorem sum_pts (f : Vec F S512 .f32) : ((sB).view.loc (thr d L) ↦{fullShare} f : sProp 𝕄)
      = (((sB).access (.whole S512)).loc (thr d L) ↦[((sB).access (.whole S512)).set]{fullShare} f) := by
  rw [show ((sB).access (.whole S512)).set = Finset.univ from Memref.set_access_whole cc0_scratch3]

/-- The counts held whole, as the scatter-add addresses them. -/
theorem cnt_pts (f : Vec F S512 .f32) : ((cB).view.loc (thr d L) ↦{fullShare} f : sProp 𝕄)
      = (((cB).access (.whole S512)).loc (thr d L) ↦[((cB).access (.whole S512)).set]{fullShare} f) := by
  rw [show ((cB).access (.whole S512)).set = Finset.univ from Memref.set_access_whole cc0_scratch2]

/-- A scatter-add into the sums. -/
theorem sum_step {β : Type} {Q : β → sProp 𝕄} {P T : Vec F S16x1x512x512 .f32} {g : ℕ} {fc fs : Vec F S512 .f32}
    {ix : IVec S16 32} {v : Vec F S16 .f32} {hi : ∀ (a : Fin 1) (x : S16.Idx), ((![ix] : Fin 1 → IVec S16 32) a x).toNat < S512.size a}
    {hs : ((sB).access (.whole S512)).Stores Finset.univ}
    {k : PUnit → Prog (TpuEff nD τ sig (Elt F) Λ₀ (thr d L).2) β}
    (h : St d L P T g fc (scat fs ix v) ⊢ WP (k ⟨⟩) Q) :
    St d L P T g fc fs ⊢ WP (SparseCore.vectorStoreIdx (sB) ![ix] v (fun _ => 1#1) true hi hs >>= k) Q := by
  unfold St at h ⊢
  rw [sum_pts] at h ⊢
  iintro ⟨Hp, Ht, Hc, Hs⟩
  iapply (SparseCore.wp_vectorStoreIdx (defs := defs₀ (F := F)) 𝒱₀ (thr d L) none Set.univ (base := (sB)) (hs := hs) (h := hi) (k := k) (Q := Q)) $$ Hs
  iintro Hs
  rw [Memref.read_access_whole, Memref.write_access_whole_univ, scat_eq]
  iapply h
  iframe

/-- A scatter-add into the counts. -/
theorem cnt_step {β : Type} {Q : β → sProp 𝕄} {P T : Vec F S16x1x512x512 .f32} {g : ℕ} {fc fs : Vec F S512 .f32}
    {ix : IVec S16 32} {v : Vec F S16 .f32} {hi : ∀ (a : Fin 1) (x : S16.Idx), ((![ix] : Fin 1 → IVec S16 32) a x).toNat < S512.size a}
    {hs : ((cB).access (.whole S512)).Stores Finset.univ}
    {k : PUnit → Prog (TpuEff nD τ sig (Elt F) Λ₀ (thr d L).2) β}
    (h : St d L P T g (scat fc ix v) fs ⊢ WP (k ⟨⟩) Q) :
    St d L P T g fc fs ⊢ WP (SparseCore.vectorStoreIdx (cB) ![ix] v (fun _ => 1#1) true hi hs >>= k) Q := by
  unfold St at h ⊢
  rw [cnt_pts] at h ⊢
  iintro ⟨Hp, Ht, Hc, Hs⟩
  iapply (SparseCore.wp_vectorStoreIdx (defs := defs₀ (F := F)) 𝒱₀ (thr d L) none Set.univ (base := (cB)) (hs := hs) (h := hi) (k := k) (Q := Q)) $$ Hc
  iintro Hc
  rw [Memref.read_access_whole, Memref.write_access_whole_univ, scat_eq]
  iapply h
  iframe

/-- A checked vector of cells in range. -/
theorem chk_of {ix : IVec S16 32} (h : InRange ix) : (∀ (a : Fin 1) (x : S16.Idx), ((![ix] : Fin 1 → IVec S16 32) a x).toNat < S512.size a)
    ∧ (∀ (a : Fin 1) (x : S16.Idx), ((![ix] : Fin 1 → IVec S16 32) a x).toNat < S512.size a) := ⟨h.inb, h.inb⟩

set_option maxRecDepth 100000 in -- 128 memory operations in one straight line
set_option maxHeartbeats 4000000 in
/-- One inner trip adds one row of pixels to the counts and to the sums. -/
theorem inner_trip (P T : Vec F S16x1x512x512 .f32) (hT : AllIn T) (t2 : Fin k0_t2_loop.trips) (t3 : Fin k0_t3_loop.trips)
   (v29 : BitVec 32) (v66 : BitVec 32) :
    St d L P T t2.val (cntH T (coreOf L) (subOf L) (32 * t2.val + t3.val)) (sumH P T (coreOf L) (subOf L) (32 * t2.val + t3.val))
    ⊢ WP
      (k0_t3_body (F := F) L (pW) (Memref.isWhole_whole _) (tW) (Memref.isWhole_whole _) (oW) (Memref.isWhole_whole _)
        (pB) (Memref.isWhole_whole _) (tB) (Memref.isWhole_whole _) (cB) (Memref.isWhole_whole _) (sB) (Memref.isWhole_whole _)
        cc0_scratch4 cc0_scratch5 cc0_scratch6 cc0_scratch7 cc0_scoped0 cc0_scoped1 v29 ones (iota .scVector S16 32 [0] iota_S16_d0_w32_scVector) 16#32 t2 v66 t3 ())
      fun _ => St d L P T t2.val (cntH T (coreOf L) (subOf L) (32 * t2.val + t3.val + 1)) (sumH P T (coreOf L) (subOf L) (32 * t2.val + t3.val + 1)) := by
  unfold k0_t3_body
  refine bind_step d L ?_
  rw [k0_part1_eq_skeleton]; unfold k0_part1_skel
  iterate 2 refine tgt_step d L ?_
  refine ret_step d L ?_
  refine bind_step d L ?_
  rw [k0_part2_eq_skeleton]; unfold k0_part2_skel
  iterate 10 refine tgt_step d L ?_
  refine ret_step d L ?_
  refine bind_step d L ?_
  rw [k0_part3_eq_skeleton]; unfold k0_part3_skel
  iterate 10 refine tgt_step d L ?_
  refine ret_step d L ?_
  refine bind_step d L ?_
  rw [k0_part4_eq_skeleton]; unfold k0_part4_skel
  iterate 10 refine tgt_step d L ?_
  refine ret_step d L ?_
  refine bind_step d L ?_
  rw [k0_part5_eq_skeleton]; unfold k0_part5_skel
  iterate 10 refine prd_step d L ?_
  refine ret_step d L ?_
  refine bind_step d L ?_
  rw [k0_part6_eq_skeleton]; unfold k0_part6_skel
  iterate 10 refine prd_step d L ?_
  refine ret_step d L ?_
  refine bind_step d L ?_
  rw [k0_part7_eq_skeleton]; unfold k0_part7_skel
  iterate 10 refine prd_step d L ?_
  refine ret_step d L ?_
  refine bind_step d L ?_
  rw [k0_part8_eq_skeleton]; unfold k0_part8_skel
  iterate 2 refine prd_step d L ?_
  refine ret_step d L ?_
  refine bind_step d L ?_
  rw [k0_part9_eq_skeleton]; unfold k0_part9_skel
  refine ret_step d L ?_
  refine bind_step d L ?_
  rw [k0_part10_eq_skeleton]; unfold k0_part10_skel
  iterate 2 refine chk_step d L (chk_of (hT _ _ _ _)) ?_
  refine ret_step d L ?_
  refine bind_step d L ?_
  rw [k0_part11_eq_skeleton]; unfold k0_part11_skel
  iterate 12 refine chk_step d L (chk_of (hT _ _ _ _)) ?_
  refine ret_step d L ?_
  refine bind_step d L ?_
  rw [k0_part12_eq_skeleton]; unfold k0_part12_skel
  iterate 12 refine chk_step d L (chk_of (hT _ _ _ _)) ?_
  refine ret_step d L ?_
  refine bind_step d L ?_
  rw [k0_part13_eq_skeleton]; unfold k0_part13_skel
  iterate 6 refine chk_step d L (chk_of (hT _ _ _ _)) ?_
  refine ret_step d L ?_
  refine bind_step d L ?_
  rw [k0_part14_eq_skeleton]; unfold k0_part14_skel
  iterate 14
    refine sum_step d L ?_
    refine cnt_step d L ?_
  refine ret_step d L ?_
  iterate 18
    refine sum_step d L ?_
    refine cnt_step d L ?_
  refine ret_step d L ?_
  exact Entails.rfl

end Cert.Proof.Hist
-- ==== Proof.Copy.lean ====
/-
  The chunks of the images a tile copies into its staging buffers: what a chunk's copy leaves there, its start, its wait.
-/
module

public import proofs.«01_k».proof.Proof.Inner
public import Idealize.ShloMosaic.Lib.ValueLayout
@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "pW" => (Memref.whole Cert.KernelIdeal.main_arg0_scv : Memref Cert.KernelIdeal.sig Kind.scVector Space.hbm Cert.KernelIdeal.S16x1x512x512 EltTy.f32)
local notation "tW" => (Memref.whole Cert.KernelIdeal.main_arg1_scv : Memref Cert.KernelIdeal.sig Kind.scVector Space.hbm Cert.KernelIdeal.S16x1x512x512 EltTy.f32)
local notation "oW" => (Memref.whole Cert.KernelIdeal.main_v0_scv : Memref Cert.KernelIdeal.sig Kind.scVector Space.hbm Cert.KernelIdeal.S32x2x512 EltTy.f32)
local notation "pB" => (Memref.whole Cert.KernelIdeal.cc0_scratch0 : Memref Cert.KernelIdeal.sig Kind.scVector Space.vmem Cert.KernelIdeal.S64x512 EltTy.f32)
local notation "tB" => (Memref.whole Cert.KernelIdeal.cc0_scratch1 : Memref Cert.KernelIdeal.sig Kind.scVector Space.vmem Cert.KernelIdeal.S64x512 EltTy.f32)
local notation "cB" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S512 EltTy.f32)

open Idealize.ShloMosaic.ValueIdx

variable (d : Dev nD) (L : grid0.Coords)

local notation "WP" => wp frame (wpE (defs₀ (F := F)) 𝒱₀ (thr d L) none) Set.univ

/-- Thirty-two rows of an image, as the copies address them. -/
abbrev srcV {sp : Space} (W : Memref sig .scVector sp S16x1x512x512 .f32) (o : Fin 4 → ℕ) (inb : ∀ a, o a + S1x1x32x512.size a ≤ S16x1x512x512.size a) :
    Memref sig .scVector sp S32x512 .f32 :=
  (W.slice (Rect.unit (s := S16x1x512x512) o S1x1x32x512.size inb) (fun _ => rfl)).squeeze S32x512 squeezes_S1x1x32x512_S32x512
/-- A half of a staging buffer, as the copies address it. -/
abbrev slotV {sp : Space} (B : Memref sig .scVector sp S64x512 .f32) (so : Fin 2 → ℕ) (inb : ∀ a, so a + S32x512.size a ≤ S64x512.size a) :
    Memref sig .scVector sp S32x512 .f32 :=
  B.slice (Rect.unit (s := S64x512) so S32x512.size inb) (fun _ => rfl)

/-- The units a chunk's copy credits. -/
abbrev crdP : ℕ := (slotV (pB) ![0, 0] inb_S64x512_S32x512_0_0).view.dmaCredit
abbrev crdT : ℕ := (slotV (tB) ![0, 0] inb_S64x512_S32x512_0_0).view.dmaCredit

/-- The elements of the half at row `32 b`. -/
theorem slot_set {so : Fin 2 → ℕ} {sinb : ∀ a, so a + S32x512.size a ≤ S64x512.size a} {b : ℕ} (hb : b < 2) (hso : so = ![32 * b, 0]) :
    (Rect.unit (s := S64x512) so S32x512.size sinb).set = half b := by
  subst hso
  ext y
  have hy1 : (y 1).val < 512 := (y 1).isLt
  rw [Rect.mem_set_unit]
  simp only [half, Finset.mem_filter, Finset.mem_univ, true_and]
  constructor
  · intro h
    have h0 : 32 * b ≤ (y 0).val ∧ (y 0).val < 32 * b + 32 := h 0
    omega
  · intro h a
    fin_cases a
    · show 32 * b ≤ (y 0).val ∧ (y 0).val < 32 * b + 32; omega
    · show 0 ≤ (y 1).val ∧ (y 1).val < 0 + 512; omega

/-- A flight may carry along what its starter keeps: it is handed back with the delivery. -/
theorem Flight_keep {c : Thread nD τ} {sm : SemLoc sig} {ι : HIx 1} {N : ℕ} {D R D' : sProp 𝕄} (h : iprop(D ∗ R) ⊢ D') :
    iprop(Transfers.Flight countersEmb c sm ι N D ∗ R) ⊢ Transfers.Flight countersEmb c sm ι N D' := by
  unfold Transfers.Flight
  iintro ⟨⟨⟨%C, HC, %hcap, %hpeek⟩, Hcred⟩, HR⟩
  isplitl [HC HR]
  · iexists iprop(C ∗ R)
    isplitl [HC HR]
    · isplitl [HC] <;> iassumption
    isplit
    · ipureintro
      intro K
      refine BIBase.Entails.trans ?_ (hcap K)
      iintro ⟨⟨HC, HR⟩, HK⟩
      isplitl [HC]; · iexact HC
      iintro ⟨Hv, HD⟩
      iapply HK
      isplitl [Hv]; · iexact Hv
      iapply h
      isplitl [HD] <;> iassumption
    · ipureintro
      intro K
      refine BIBase.Entails.trans ?_ (hpeek K)
      iintro ⟨⟨HC, HR⟩, HK⟩
      isplitl [HC]; · iexact HC
      iintro HC
      iapply HK
      isplitl [HC] <;> iassumption
  · iexact Hcred

/-- What the tile owes, with the evidence its waits need: the waits of its own copies are recorded at no call. -/
def owesW (O : CellTallies nD τ sig (HIx 1)) (W : Waits sig (HIx 1)) : sProp 𝕄 :=
  iprop(Transfers.MayWaits (thr d L) none O ∗ ∃ W', ⌜∀ p ∈ W', p ∈ W ∨ p.2 = none⌝ ∗ owes (thr d L) O W')

/-! ## Chunks of the prediction -/

/-- A chunk of the prediction written into a half of its staging buffer: what the half then holds. -/
theorem landP (A : Vec F S16x1x512x512 .f32) (f : Vec F S64x512 .f32) {o : Fin 4 → ℕ} {so : Fin 2 → ℕ} {inb : ∀ a, o a + S1x1x32x512.size a ≤ S16x1x512x512.size a}
    {sinb : ∀ a, so a + S32x512.size a ≤ S64x512.size a} {b g : ℕ} (hb : b < 2)
    (ho : o = ![(subOf L).val, 0, 256 * (coreOf L).val + 32 * g, 0]) (hso : so = ![32 * b, 0]) (y : S64x512.Idx) (hy : y ∈ half b) :
    (slotV (pB) so sinb).view.write (Elt F) f ((srcV (pW) o inb).view.read (Elt F) A) Finset.univ y = tileBuf A (coreOf L) (subOf L) g y := by
  subst ho hso
  have hy0 : (y 0).val / 32 = b := (Finset.mem_filter.mp hy).2
  have hy0' : (y 0).val < 64 := (y 0).isLt
  have hy1 : (y 1).val < 512 := (y 1).isLt
  have hin : 256 * (coreOf L).val + 32 * g + 32 ≤ 512 := inb 2
  have hs : (subOf L).val < 16 := (subOf L).isLt
  have ey : y = (slotV (pB) ![32 * b, 0] sinb).view.emb (ix2 (⟨(y 0).val % 32, by omega⟩ : Fin 32) (⟨(y 1).val, hy1⟩ : Fin 512)) := by
    funext a
    refine Fin.ext ?_
    fin_cases a
    · show (y 0).val = 32 * b + 1 * ((y 0).val % 32); omega
    · show (y 1).val = 0 + 1 * (y 1).val; omega
  have e1 := View.write_emb_of_mem (v := (slotV (pB) ![32 * b, 0] sinb).view) (Val := Elt F) f ((srcV (pW) _ inb).view.read (Elt F) A)
    (M := Finset.univ) (x := ix2 (⟨(y 0).val % 32, by omega⟩ : Fin 32) (⟨(y 1).val, hy1⟩ : Fin 512)) (Finset.mem_univ _)
  rw [← ey] at e1
  refine e1.trans ?_
  show A ((Rect.unit (s := S16x1x512x512) _ S1x1x32x512.size inb).emb (Shape.reshapeEquiv _ (ix2 _ _))) = _
  rw [reshapeEquiv_ix2_11ab]
  unfold tileBuf px
  congr 1
  funext a
  refine Fin.ext ?_
  fin_cases a
  · show (subOf L).val + 1 * 0 = (subOf L).val; omega
  · show 0 + 1 * 0 = 0; rfl
  · show 256 * (coreOf L).val + 32 * g + 1 * ((y 0).val % 32) = (256 * (coreOf L).val + 32 * g + (y 0).val % 32) % 512; omega
  · show 0 + 1 * (y 1).val = (y 1).val % 512; omega

/-- What a flight of chunk `g` of the prediction into the half `b` delivers: the landed half, and the share of the array read. -/
def DlvP (q : PosShare TreeShare) (A : Vec F S16x1x512x512 .f32) (b g : ℕ) : sProp 𝕄 :=
  iprop(((pB).view.loc (thr d L) ↦[half b]{fullShare} tileBuf A (coreOf L) (subOf L) g) ∗ ((pW).view.loc (thr d L) ↦{q} A))

/-- The start of a chunk of the prediction. -/
theorem startP {β : Type} {Q : β → sProp 𝕄} {R : sProp 𝕄} {q : PosShare TreeShare} {A : Vec F S16x1x512x512 .f32} {f : Vec F S64x512 .f32} {sm : DmaSem sig}
    {o : Fin 4 → ℕ} {so : Fin 2 → ℕ} {inb : ∀ a, o a + S1x1x32x512.size a ≤ S16x1x512x512.size a}
    {sinb : ∀ a, so a + S32x512.size a ≤ S64x512.size a} {h1 : (srcV (pW) o inb).view.WordExact} {h2 : (slotV (pB) so sinb).view.WordExact}
    {h3 : DmaTarget.Typed (nD := nD) Space.hbm (.dma sm) (DmaTarget.here (p := (thr d L).2) (slotV (pB) so sinb))}
    {k : PUnit → Prog (TpuEff nD τ sig (Elt F) Λ₀ (thr d L).2) β} (b g : ℕ) (hb : b < 2)
    (ho : o = ![(subOf L).val, 0, 256 * (coreOf L).val + 32 * g, 0]) (hso : so = ![32 * b, 0])
    (h : iprop(R ∗ Transfers.Flight countersEmb (thr d L) (.dma sm) none crdP (DlvP d L q A b g)) ⊢ WP (k ⟨⟩) Q) :
    iprop(R ∗ ((pB).view.loc (thr d L) ↦[half b]{fullShare} f) ∗ ((pW).view.loc (thr d L) ↦{q} A) ∗ semVal (thr d L, SemLoc.dma sm) 0)
      ⊢ WP (Prog.lift (TpuEff.enqueueDma (srcV (pW) o inb) (.here (slotV (pB) so sinb)) (.dma sm) h1 h2 h3) >>= k) Q := by
  change _ ⊢ WP (Prog.op (TpuEff.enqueueDma (srcV (pW) o inb) (.here (slotV (pB) so sinb)) (.dma sm) h1 h2 h3) k) Q
  have hset : (slotV (pB) so sinb).view.set = half b := (View.set_slice_whole _ _).trans (slot_set hb hso)
  iintro ⟨HR, Hb, Hw, Hv⟩
  ihave Hw := (pointsTo_split_subset (Finset.subset_univ (srcV (pW) o inb).view.set)).1 $$ Hw
  icases Hw with ⟨Hw, Hrest⟩
  iapply (Transfers.wp_dmaLocal (defs := defs₀ (F := F)) (src := srcV (pW) o inb) (dst := slotV (pB) so sinb) (k := k) (Q := Q) countersEmb 𝒱₀ (thr d L) none none crdP rfl
    (View.amount_pos _ (.dma sm) (show 0 < S32x512.numel by decide)) (le_of_eq hset)) $$ [Hw Hb Hv]
  · isplitl [Hw]; · iexact Hw
    isplitl [Hb]; · iexact Hb
    iexact Hv
  iintro Hf
  iapply h
  isplitl [HR]; · iexact HR
  iapply (Flight_keep (D := iprop(((pB).view.loc (thr d L) ↦[half b]{fullShare} ((slotV (pB) so sinb).view.write (Elt F) f ((srcV (pW) o inb).view.read (Elt F) A) Finset.univ))
      ∗ ((srcV (pW) o inb).view.loc (thr d L) ↦[(srcV (pW) o inb).view.set]{q} A)))
    (R := ((pW).view.loc (thr d L) ↦[Finset.univ \ (srcV (pW) o inb).view.set]{q} A)) (D' := DlvP d L q A b g) ?_)
  · unfold DlvP
    iintro ⟨⟨Hb, Hw⟩, Hrest⟩
    isplitl [Hb]
    · iapply (Entails.of_eq (pointsTo_congr (landP L A f hb ho hso))) $$ Hb
    · iapply (pointsTo_split_subset (Finset.subset_univ (srcV (pW) o inb).view.set)).2
      isplitl [Hw]; · iexact Hw
      iexact Hrest
  · isplitl [Hf]; · iexact Hf
    iexact Hrest

/-- The wait for a chunk of the prediction. -/
theorem waitP {β : Type} {Q : β → sProp 𝕄} {R : sProp 𝕄} {q : PosShare TreeShare} {A : Vec F S16x1x512x512 .f32} {sm : DmaSem sig}
    {O : CellTallies nD τ sig (HIx 1)} {W : Waits sig (HIx 1)}
    {o : Fin 4 → ℕ} {so : Fin 2 → ℕ} {inb : ∀ a, o a + S1x1x32x512.size a ≤ S16x1x512x512.size a}
    {sinb : ∀ a, so a + S32x512.size a ≤ S64x512.size a} {h1 : (srcV (pW) o inb).view.WordExact} {h2 : (slotV (pB) so sinb).view.WordExact}
    {k : PUnit → Prog (TpuEff nD τ sig (Elt F) Λ₀ (thr d L).2) β} {b g : ℕ}
    (h : iprop(R ∗ owesW d L O W ∗ DlvP d L q A b g ∗ semVal (thr d L, SemLoc.dma sm) 0) ⊢ WP (k ⟨⟩) Q) :
    iprop(R ∗ owesW d L O W ∗ Transfers.Flight countersEmb (thr d L) (.dma sm) none crdP (DlvP d L q A b g))
      ⊢ WP (Prog.lift (TpuEff.waitDma2 sm (srcV (pW) o inb) (slotV (pB) so sinb) h1 h2) >>= k) Q := by
  change _ ⊢ WP (Prog.op (TpuEff.waitDma2 sm (srcV (pW) o inb) (slotV (pB) so sinb) h1 h2) k) Q
  unfold owesW at h ⊢
  iintro ⟨HR, ⟨#Hmw, %W', %hW, Ho⟩, Hf⟩
  ihave Hmw1 := (Transfers.MayWaits.elim (SemLoc.dma sm)) $$ Hmw
  iapply (Transfers.wp_waitLocalO (defs := defs₀ (F := F)) (srcw := srcV (pW) o inb) (dstw := slotV (pB) so sinb) (k := k) (Q := Q) countersEmb 𝒱₀ (thr d L) none none (N := crdP) rfl) $$ [Hf Ho Hmw1]
  · isplitl [Hf]; · iexact Hf
    isplitl [Ho] <;> iassumption
  iintro ⟨HD, Hv, Ho⟩
  iapply h
  isplitl [HR]; · iexact HR
  isplitl [Ho]
  · isplitr; · iexact Hmw
    iexists (insert (SemLoc.dma sm, none) W')
    isplitr
    · ipureintro
      intro p hp
      rcases Finset.mem_insert.mp hp with hp | hp
      · exact Or.inr (by rw [hp])
      · exact hW p hp
    · iexact Ho
  isplitl [HD] <;> iassumption

/-! ## Chunks of the target -/

/-- A chunk of the target written into a half of its staging buffer: what the half then holds. -/
theorem landT (A : Vec F S16x1x512x512 .f32) (f : Vec F S64x512 .f32) {o : Fin 4 → ℕ} {so : Fin 2 → ℕ} {inb : ∀ a, o a + S1x1x32x512.size a ≤ S16x1x512x512.size a}
    {sinb : ∀ a, so a + S32x512.size a ≤ S64x512.size a} {b g : ℕ} (hb : b < 2)
    (ho : o = ![(subOf L).val, 0, 256 * (coreOf L).val + 32 * g, 0]) (hso : so = ![32 * b, 0]) (y : S64x512.Idx) (hy : y ∈ half b) :
    (slotV (tB) so sinb).view.write (Elt F) f ((srcV (tW) o inb).view.read (Elt F) A) Finset.univ y = tileBuf A (coreOf L) (subOf L) g y := by
  subst ho hso
  have hy0 : (y 0).val / 32 = b := (Finset.mem_filter.mp hy).2
  have hy0' : (y 0).val < 64 := (y 0).isLt
  have hy1 : (y 1).val < 512 := (y 1).isLt
  have hin : 256 * (coreOf L).val + 32 * g + 32 ≤ 512 := inb 2
  have hs : (subOf L).val < 16 := (subOf L).isLt
  have ey : y = (slotV (tB) ![32 * b, 0] sinb).view.emb (ix2 (⟨(y 0).val % 32, by omega⟩ : Fin 32) (⟨(y 1).val, hy1⟩ : Fin 512)) := by
    funext a
    refine Fin.ext ?_
    fin_cases a
    · show (y 0).val = 32 * b + 1 * ((y 0).val % 32); omega
    · show (y 1).val = 0 + 1 * (y 1).val; omega
  have e1 := View.write_emb_of_mem (v := (slotV (tB) ![32 * b, 0] sinb).view) (Val := Elt F) f ((srcV (tW) _ inb).view.read (Elt F) A)
    (M := Finset.univ) (x := ix2 (⟨(y 0).val % 32, by omega⟩ : Fin 32) (⟨(y 1).val, hy1⟩ : Fin 512)) (Finset.mem_univ _)
  rw [← ey] at e1
  refine e1.trans ?_
  show A ((Rect.unit (s := S16x1x512x512) _ S1x1x32x512.size inb).emb (Shape.reshapeEquiv _ (ix2 _ _))) = _
  rw [reshapeEquiv_ix2_11ab]
  unfold tileBuf px
  congr 1
  funext a
  refine Fin.ext ?_
  fin_cases a
  · show (subOf L).val + 1 * 0 = (subOf L).val; omega
  · show 0 + 1 * 0 = 0; rfl
  · show 256 * (coreOf L).val + 32 * g + 1 * ((y 0).val % 32) = (256 * (coreOf L).val + 32 * g + (y 0).val % 32) % 512; omega
  · show 0 + 1 * (y 1).val = (y 1).val % 512; omega

/-- What a flight of chunk `g` of the target into the half `b` delivers: the landed half, and the share of the array read. -/
def DlvT (q : PosShare TreeShare) (A : Vec F S16x1x512x512 .f32) (b g : ℕ) : sProp 𝕄 :=
  iprop(((tB).view.loc (thr d L) ↦[half b]{fullShare} tileBuf A (coreOf L) (subOf L) g) ∗ ((tW).view.loc (thr d L) ↦{q} A))

/-- The start of a chunk of the target. -/
theorem startT {β : Type} {Q : β → sProp 𝕄} {R : sProp 𝕄} {q : PosShare TreeShare} {A : Vec F S16x1x512x512 .f32} {f : Vec F S64x512 .f32} {sm : DmaSem sig}
    {o : Fin 4 → ℕ} {so : Fin 2 → ℕ} {inb : ∀ a, o a + S1x1x32x512.size a ≤ S16x1x512x512.size a}
    {sinb : ∀ a, so a + S32x512.size a ≤ S64x512.size a} {h1 : (srcV (tW) o inb).view.WordExact} {h2 : (slotV (tB) so sinb).view.WordExact}
    {h3 : DmaTarget.Typed (nD := nD) Space.hbm (.dma sm) (DmaTarget.here (p := (thr d L).2) (slotV (tB) so sinb))}
    {k : PUnit → Prog (TpuEff nD τ sig (Elt F) Λ₀ (thr d L).2) β} (b g : ℕ) (hb : b < 2)
    (ho : o = ![(subOf L).val, 0, 256 * (coreOf L).val + 32 * g, 0]) (hso : so = ![32 * b, 0])
    (h : iprop(R ∗ Transfers.Flight countersEmb (thr d L) (.dma sm) none crdT (DlvT d L q A b g)) ⊢ WP (k ⟨⟩) Q) :
    iprop(R ∗ ((tB).view.loc (thr d L) ↦[half b]{fullShare} f) ∗ ((tW).view.loc (thr d L) ↦{q} A) ∗ semVal (thr d L, SemLoc.dma sm) 0)
      ⊢ WP (Prog.lift (TpuEff.enqueueDma (srcV (tW) o inb) (.here (slotV (tB) so sinb)) (.dma sm) h1 h2 h3) >>= k) Q := by
  change _ ⊢ WP (Prog.op (TpuEff.enqueueDma (srcV (tW) o inb) (.here (slotV (tB) so sinb)) (.dma sm) h1 h2 h3) k) Q
  have hset : (slotV (tB) so sinb).view.set = half b := (View.set_slice_whole _ _).trans (slot_set hb hso)
  iintro ⟨HR, Hb, Hw, Hv⟩
  ihave Hw := (pointsTo_split_subset (Finset.subset_univ (srcV (tW) o inb).view.set)).1 $$ Hw
  icases Hw with ⟨Hw, Hrest⟩
  iapply (Transfers.wp_dmaLocal (defs := defs₀ (F := F)) (src := srcV (tW) o inb) (dst := slotV (tB) so sinb) (k := k) (Q := Q) countersEmb 𝒱₀ (thr d L) none none crdT rfl
    (View.amount_pos _ (.dma sm) (show 0 < S32x512.numel by decide)) (le_of_eq hset)) $$ [Hw Hb Hv]
  · isplitl [Hw]; · iexact Hw
    isplitl [Hb]; · iexact Hb
    iexact Hv
  iintro Hf
  iapply h
  isplitl [HR]; · iexact HR
  iapply (Flight_keep (D := iprop(((tB).view.loc (thr d L) ↦[half b]{fullShare} ((slotV (tB) so sinb).view.write (Elt F) f ((srcV (tW) o inb).view.read (Elt F) A) Finset.univ))
      ∗ ((srcV (tW) o inb).view.loc (thr d L) ↦[(srcV (tW) o inb).view.set]{q} A)))
    (R := ((tW).view.loc (thr d L) ↦[Finset.univ \ (srcV (tW) o inb).view.set]{q} A)) (D' := DlvT d L q A b g) ?_)
  · unfold DlvT
    iintro ⟨⟨Hb, Hw⟩, Hrest⟩
    isplitl [Hb]
    · iapply (Entails.of_eq (pointsTo_congr (landT L A f hb ho hso))) $$ Hb
    · iapply (pointsTo_split_subset (Finset.subset_univ (srcV (tW) o inb).view.set)).2
      isplitl [Hw]; · iexact Hw
      iexact Hrest
  · isplitl [Hf]; · iexact Hf
    iexact Hrest

/-- The wait for a chunk of the target. -/
theorem waitT {β : Type} {Q : β → sProp 𝕄} {R : sProp 𝕄} {q : PosShare TreeShare} {A : Vec F S16x1x512x512 .f32} {sm : DmaSem sig}
    {O : CellTallies nD τ sig (HIx 1)} {W : Waits sig (HIx 1)}
    {o : Fin 4 → ℕ} {so : Fin 2 → ℕ} {inb : ∀ a, o a + S1x1x32x512.size a ≤ S16x1x512x512.size a}
    {sinb : ∀ a, so a + S32x512.size a ≤ S64x512.size a} {h1 : (srcV (tW) o inb).view.WordExact} {h2 : (slotV (tB) so sinb).view.WordExact}
    {k : PUnit → Prog (TpuEff nD τ sig (Elt F) Λ₀ (thr d L).2) β} {b g : ℕ}
    (h : iprop(R ∗ owesW d L O W ∗ DlvT d L q A b g ∗ semVal (thr d L, SemLoc.dma sm) 0) ⊢ WP (k ⟨⟩) Q) :
    iprop(R ∗ owesW d L O W ∗ Transfers.Flight countersEmb (thr d L) (.dma sm) none crdT (DlvT d L q A b g))
      ⊢ WP (Prog.lift (TpuEff.waitDma2 sm (srcV (tW) o inb) (slotV (tB) so sinb) h1 h2) >>= k) Q := by
  change _ ⊢ WP (Prog.op (TpuEff.waitDma2 sm (srcV (tW) o inb) (slotV (tB) so sinb) h1 h2) k) Q
  unfold owesW at h ⊢
  iintro ⟨HR, ⟨#Hmw, %W', %hW, Ho⟩, Hf⟩
  ihave Hmw1 := (Transfers.MayWaits.elim (SemLoc.dma sm)) $$ Hmw
  iapply (Transfers.wp_waitLocalO (defs := defs₀ (F := F)) (srcw := srcV (tW) o inb) (dstw := slotV (tB) so sinb) (k := k) (Q := Q) countersEmb 𝒱₀ (thr d L) none none (N := crdT) rfl) $$ [Hf Ho Hmw1]
  · isplitl [Hf]; · iexact Hf
    isplitl [Ho] <;> iassumption
  iintro ⟨HD, Hv, Ho⟩
  iapply h
  isplitl [HR]; · iexact HR
  isplitl [Ho]
  · isplitr; · iexact Hmw
    iexists (insert (SemLoc.dma sm, none) W')
    isplitr
    · ipureintro
      intro p hp
      rcases Finset.mem_insert.mp hp with hp | hp
      · exact Or.inr (by rw [hp])
      · exact hW p hp
    · iexact Ho
  isplitl [HD] <;> iassumption

end Cert.Proof.Hist
-- ==== Proof.Outer.lean ====
/-
  The outer loop of a tile: one trip starts the next chunk of both images, waits for its own, and runs the inner loop.
-/
module

public import proofs.«01_k».proof.Proof.Copy
public import Idealize.ShloMosaic.Lib.Scf
@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "pW" => (Memref.whole Cert.KernelIdeal.main_arg0_scv : Memref Cert.KernelIdeal.sig Kind.scVector Space.hbm Cert.KernelIdeal.S16x1x512x512 EltTy.f32)
local notation "tW" => (Memref.whole Cert.KernelIdeal.main_arg1_scv : Memref Cert.KernelIdeal.sig Kind.scVector Space.hbm Cert.KernelIdeal.S16x1x512x512 EltTy.f32)
local notation "oW" => (Memref.whole Cert.KernelIdeal.main_v0_scv : Memref Cert.KernelIdeal.sig Kind.scVector Space.hbm Cert.KernelIdeal.S32x2x512 EltTy.f32)
local notation "pB" => (Memref.whole Cert.KernelIdeal.cc0_scratch0 : Memref Cert.KernelIdeal.sig Kind.scVector Space.vmem Cert.KernelIdeal.S64x512 EltTy.f32)
local notation "tB" => (Memref.whole Cert.KernelIdeal.cc0_scratch1 : Memref Cert.KernelIdeal.sig Kind.scVector Space.vmem Cert.KernelIdeal.S64x512 EltTy.f32)
local notation "cB" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S512 EltTy.f32)

variable (d : Dev nD) (L : grid0.Coords)

local notation "WP" => wp frame (wpE (defs₀ (F := F)) 𝒱₀ (thr d L) none) Set.univ

/-- The cell the chunks of the predictions of a half are counted on. -/
def semP : ℕ → DmaSem sig
  | 0 => cc0_scratch4.sem
  | _ + 1 => cc0_scratch5.sem
/-- The cell the chunks of the targets of a half are counted on. -/
def semT : ℕ → DmaSem sig
  | 0 => cc0_scratch6.sem
  | _ + 1 => cc0_scratch7.sem

variable (q : ℕ → PosShare TreeShare) (P T : Vec F S16x1x512x512 .f32)

/-- A half at rest: its elements of both staging buffers, the shares its copies read by, its cells at zero. -/
def Free (b : ℕ) : sProp 𝕄 :=
  iprop(∃ fp : Vec F S64x512 .f32, ∃ ft : Vec F S64x512 .f32, ((pB).view.loc (thr d L) ↦[half b]{fullShare} fp) ∗ ((tB).view.loc (thr d L) ↦[half b]{fullShare} ft)
      ∗ ((pW).view.loc (thr d L) ↦{q b} P) ∗ ((tW).view.loc (thr d L) ↦{q b} T)
      ∗ semVal (thr d L, SemLoc.dma (semP b)) 0 ∗ semVal (thr d L, SemLoc.dma (semT b)) 0)

/-- A half with chunk `g` of both images on its way into it. -/
def Fly (b g : ℕ) : sProp 𝕄 :=
  iprop(Transfers.Flight countersEmb (thr d L) (.dma (semP b)) none crdP (DlvP d L (q b) P b g)
      ∗ Transfers.Flight countersEmb (thr d L) (.dma (semT b)) none crdT (DlvT d L (q b) T b g))

/-- A half chunk `g` of both images has landed in. -/
def Landed (b g : ℕ) : sProp 𝕄 :=
  iprop((DlvP d L (q b) P b g ∗ semVal (thr d L, SemLoc.dma (semP b)) 0) ∗ (DlvT d L (q b) T b g ∗ semVal (thr d L, SemLoc.dma (semT b)) 0))

/-- The start of a chunk of both images into a half at rest. -/
theorem start_pair {β : Type} {Q : β → sProp 𝕄} {R : sProp 𝕄} {b : ℕ}
    {o : Fin 4 → ℕ} {so : Fin 2 → ℕ} {inb inb' : ∀ a, o a + S1x1x32x512.size a ≤ S16x1x512x512.size a}
    {sinb sinb' : ∀ a, so a + S32x512.size a ≤ S64x512.size a} {h1 : (srcV (pW) o inb).view.WordExact} {h2 : (slotV (pB) so sinb).view.WordExact}
    {h1' : (srcV (tW) o inb').view.WordExact} {h2' : (slotV (tB) so sinb').view.WordExact}
    {h3 : DmaTarget.Typed (nD := nD) Space.hbm (.dma (semP b)) (DmaTarget.here (p := (thr d L).2) (slotV (pB) so sinb))}
    {h3' : DmaTarget.Typed (nD := nD) Space.hbm (.dma (semT b)) (DmaTarget.here (p := (thr d L).2) (slotV (tB) so sinb'))}
    {k : PUnit → Prog (TpuEff nD τ sig (Elt F) Λ₀ (thr d L).2) β} (g : ℕ) (hb : b < 2)
    (ho : o = ![(subOf L).val, 0, 256 * (coreOf L).val + 32 * g, 0]) (hso : so = ![32 * b, 0])
    (h : iprop(R ∗ Fly d L q P T b g) ⊢ WP (k ⟨⟩) Q) :
    iprop(R ∗ Free d L q P T b)
      ⊢ WP (Prog.lift (TpuEff.enqueueDma (srcV (pW) o inb) (.here (slotV (pB) so sinb)) (.dma (semP b)) h1 h2 h3) >>= fun _ =>
          Prog.lift (TpuEff.enqueueDma (srcV (tW) o inb') (.here (slotV (tB) so sinb')) (.dma (semT b)) h1' h2' h3') >>= k) Q := by
  unfold Free
  iintro ⟨HR, %fp, %ft, Hp, Ht, Hpw, Htw, Hvp, Hvt⟩
  iapply (startP d L (R := iprop(R ∗ ((tB).view.loc (thr d L) ↦[half b]{fullShare} ft) ∗ ((tW).view.loc (thr d L) ↦{q b} T) ∗ semVal (thr d L, SemLoc.dma (semT b)) 0)) b g hb ho hso ?_)
  · iintro ⟨⟨HR, Ht, Htw, Hvt⟩, Hfp⟩
    iapply (startT d L (R := iprop(R ∗ Transfers.Flight countersEmb (thr d L) (.dma (semP b)) none crdP (DlvP d L (q b) P b g))) b g hb ho hso ?_)
    · refine BIBase.Entails.trans ?_ h
      unfold Fly
      iintro ⟨⟨HR, Hfp⟩, Hft⟩
      isplitl [HR]; · iexact HR
      isplitl [Hfp] <;> iassumption
    · isplitl [HR Hfp]
      · isplitl [HR] <;> iassumption
      isplitl [Ht]; · iexact Ht
      isplitl [Htw] <;> iassumption
  · isplitl [HR Ht Htw Hvt]
    · isplitl [HR]; · iexact HR
      isplitl [Ht]; · iexact Ht
      isplitl [Htw] <;> iassumption
    isplitl [Hp]; · iexact Hp
    isplitl [Hpw] <;> iassumption

/-- The wait for a chunk of both images. -/
theorem wait_pair {β : Type} {Q : β → sProp 𝕄} {R : sProp 𝕄} {O : CellTallies nD τ sig (HIx 1)} {W : Waits sig (HIx 1)} {b : ℕ}
    {o : Fin 4 → ℕ} {so : Fin 2 → ℕ} {inb inb' : ∀ a, o a + S1x1x32x512.size a ≤ S16x1x512x512.size a}
    {sinb sinb' : ∀ a, so a + S32x512.size a ≤ S64x512.size a} {h1 : (srcV (pW) o inb).view.WordExact} {h2 : (slotV (pB) so sinb).view.WordExact}
    {h1' : (srcV (tW) o inb').view.WordExact} {h2' : (slotV (tB) so sinb').view.WordExact}
    {k : PUnit → Prog (TpuEff nD τ sig (Elt F) Λ₀ (thr d L).2) β} {g : ℕ}
    (h : iprop(R ∗ owesW d L O W ∗ Landed d L q P T b g) ⊢ WP (k ⟨⟩) Q) :
    iprop(R ∗ owesW d L O W ∗ Fly d L q P T b g)
      ⊢ WP (Prog.lift (TpuEff.waitDma2 (semP b) (srcV (pW) o inb) (slotV (pB) so sinb) h1 h2) >>= fun _ =>
          Prog.lift (TpuEff.waitDma2 (semT b) (srcV (tW) o inb') (slotV (tB) so sinb') h1' h2') >>= k) Q := by
  unfold Fly
  iintro ⟨HR, Ho, Hfp, Hft⟩
  iapply (waitP d L (q := q b) (A := P) (b := b) (g := g)
    (R := iprop(R ∗ Transfers.Flight countersEmb (thr d L) (.dma (semT b)) none crdT (DlvT d L (q b) T b g))) ?_)
  · iintro ⟨⟨HR, Hft⟩, Ho, HD, Hv⟩
    iapply (waitT d L (q := q b) (A := T) (b := b) (g := g)
      (R := iprop(R ∗ (DlvP d L (q b) P b g ∗ semVal (thr d L, SemLoc.dma (semP b)) 0))) ?_)
    · refine BIBase.Entails.trans ?_ h
      unfold Landed
      iintro ⟨⟨HR, HP⟩, Ho, HT⟩
      isplitl [HR]; · iexact HR
      isplitl [Ho]; · iexact Ho
      isplitl [HP] <;> iassumption
    · isplitl [HR HD Hv]
      · isplitl [HR]; · iexact HR
        isplitl [HD] <;> iassumption
      isplitl [Ho] <;> iassumption
  · isplitl [HR Hft]
    · isplitl [HR] <;> iassumption
    isplitl [Ho] <;> iassumption

/-- A taken branch. -/
theorem dite_pos {β : Type} {R : sProp 𝕄} {Q : β → sProp 𝕄} {c : Prop} {dc : Decidable c} {t : c → Prog (TpuEff nD τ sig (Elt F) Λ₀ (thr d L).2) β}
    {e : ¬ c → Prog (TpuEff nD τ sig (Elt F) Λ₀ (thr d L).2) β} (hc : c) (h : R ⊢ WP (t hc) Q) : R ⊢ WP (dite c t e) Q := by
  rw [_root_.dif_pos hc]; exact h
/-- A branch not taken. -/
theorem dite_neg {β : Type} {R : sProp 𝕄} {Q : β → sProp 𝕄} {c : Prop} {dc : Decidable c} {t : c → Prog (TpuEff nD τ sig (Elt F) Λ₀ (thr d L).2) β}
    {e : ¬ c → Prog (TpuEff nD τ sig (Elt F) Λ₀ (thr d L).2) β} (hc : ¬ c) (h : R ⊢ WP (e hc) Q) : R ⊢ WP (dite c t e) Q := by
  rw [_root_.dif_neg hc]; exact h

/-- The histograms after `n` rows. -/
def Hists (n : ℕ) : sProp 𝕄 :=
  iprop(((cB).view.loc (thr d L) ↦{fullShare} cntH T (coreOf L) (subOf L) n) ∗ ((sB).view.loc (thr d L) ↦{fullShare} sumH P T (coreOf L) (subOf L) n))

/-- The inner loop adds the thirty-two rows of the landed chunk. -/
theorem rows (hT : AllIn T) (t : Fin k0_t2_loop.trips) (v29 v66 : BitVec 32) {R : sProp 𝕄} :
    iprop(R ∗ Landed d L q P T (t.val % 2) t.val ∗ Hists d L P T (32 * t.val)) ⊢ WP
      (Scf.Loop.for k0_t3_loop k0_t3_ok PUnit.unit (k0_t3_body (F := F) L (pW) (Memref.isWhole_whole _) (tW) (Memref.isWhole_whole _) (oW) (Memref.isWhole_whole _)
        (pB) (Memref.isWhole_whole _) (tB) (Memref.isWhole_whole _) (cB) (Memref.isWhole_whole _) (sB) (Memref.isWhole_whole _)
        cc0_scratch4 cc0_scratch5 cc0_scratch6 cc0_scratch7 cc0_scoped0 cc0_scoped1 v29 ones (iota .scVector S16 32 [0] iota_S16_d0_w32_scVector) 16#32 t v66) >>= fun _ => Pure.pure PUnit.unit)
      fun _ : PUnit => iprop(R ∗ Free d L q P T (t.val % 2) ∗ Hists d L P T (32 * (t.val + 1))) := by
  unfold Landed DlvP DlvT Hists
  iintro ⟨HR, ⟨⟨⟨Hp, Hpw⟩, Hvp⟩, ⟨⟨Ht, Htw⟩, Hvt⟩⟩, Hc, Hs⟩
  iapply (Scf.wp_for_bind _ _ Set.univ k0_t3_loop.lb k0_t3_loop.ub k0_t3_loop.st k0_t3_ok PUnit.unit _
    (fun n _ => St d L P T t.val (cntH T (coreOf L) (subOf L) (32 * t.val + n)) (sumH P T (coreOf L) (subOf L) (32 * t.val + n)))
    (fun k _ => inner_trip d L P T hT t k v29 v66)) $$ [Hp Ht Hc Hs]
  · unfold St
    iframe
  iintro %_ H
  rw [wp_pure]
  imodintro
  isplitl [HR]; · iexact HR
  unfold St Free
  icases H with ⟨Hp, Ht, Hc, Hs⟩
  isplitr [Hc Hs]
  · iexists (tileBuf P (coreOf L) (subOf L) t.val), (tileBuf T (coreOf L) (subOf L) t.val)
    iframe
  · rw [show 32 * (t.val + 1) = 32 * t.val + Scf.trips k0_t3_loop.lb k0_t3_loop.ub k0_t3_loop.st from congrArg (32 * t.val + ·) t3_trips.symm]
    iframe

/-- The first wait is taken at even trips, -/
theorem wait0_iff : ∀ t : Fin k0_t2_loop.trips,
    Scalar.cmpi .ne (Scalar.extui (Scalar.cmpi .eq (Scalar.remsi (Scf.iv 0#32 1#32 t.val) 2#32) 0#32) : BitVec 32) 0#32 = 1#1 ↔ t.val % 2 = 0 := by
  decide +kernel
/-- and the second at odd ones. -/
theorem wait1_iff : ∀ t : Fin k0_t2_loop.trips,
    Scalar.cmpi .ne (Scalar.extui (Scalar.xori (Scalar.cmpi .eq (Scalar.remsi (Scf.iv 0#32 1#32 t.val) 2#32) 0#32) 1#1) : BitVec 32) 0#32 = 1#1 ↔ t.val % 2 = 1 := by
  decide +kernel

/-- What a tile holds before outer trip `g`: chunk `g` on its way, the other half at rest, the histograms of the rows so far. -/
def OInv (O : CellTallies nD τ sig (HIx 1)) (W : Waits sig (HIx 1)) (g : ℕ) : sProp 𝕄 :=
  iprop(owesW d L O W ∗ (if g < 8 then Fly d L q P T (g % 2) g else Free d L q P T (g % 2)) ∗ Free d L q P T ((g + 1) % 2) ∗ Hists d L P T (32 * g))

/-- One outer trip. -/
theorem outer_trip (hT : AllIn T) (O : CellTallies nD τ sig (HIx 1)) (W : Waits sig (HIx 1)) (t : Fin k0_t2_loop.trips) (v29 : BitVec 32) :
    OInv d L q P T O W t.val ⊢ WP
      (k0_t2_body (F := F) L (pW) (Memref.isWhole_whole _) (tW) (Memref.isWhole_whole _) (oW) (Memref.isWhole_whole _)
        (pB) (Memref.isWhole_whole _) (tB) (Memref.isWhole_whole _) (cB) (Memref.isWhole_whole _) (sB) (Memref.isWhole_whole _)
        cc0_scratch4 cc0_scratch5 cc0_scratch6 cc0_scratch7 cc0_scoped0 cc0_scoped1 v29 ones (iota .scVector S16 32 [0] iota_S16_d0_w32_scVector) 16#32 t ())
      fun _ => OInv d L q P T O W (t.val + 1) := by
  have ht : t.val < 8 := lt_of_lt_of_eq t.isLt t2_trips
  have hr := fun {R : sProp 𝕄} (v66 : BitVec 32) => rows (R := R) d L q P T hT t v29 v66
  unfold k0_t2_body OInv
  rw [if_pos ht]
  rcases Nat.mod_two_eq_zero_or_one t.val with hp | hp
  · have hp1 : (t.val + 1) % 2 = 1 := by omega
    have hp2 : (t.val + 1 + 1) % 2 = 0 := by omega
    rw [hp, hp1, hp2, if_pos (show t.val + 1 < 8 by omega)]
    rw [hp] at hr
    refine dite_pos d L ((cond1_iff t).mpr hp) ?_
    iintro ⟨Ho, Hf, Hn, Hh⟩
    iapply (start_pair d L q P T (b := 1) (R := iprop(owesW d L O W ∗ Fly d L q P T 0 t.val ∗ Hists d L P T (32 * t.val))) (t.val + 1) (by omega)
      (off3_eq L t) rfl ?_) $$ [Ho Hf Hn Hh]
    · refine dite_neg d L (fun h => by have := (cond2_iff t).mp h; omega) ?_
      refine dite_pos d L ((wait0_iff t).mpr hp) ?_
      iintro ⟨⟨Ho, Hf, Hh⟩, Hn⟩
      iapply (wait_pair d L q P T (b := 0) (R := iprop(Hists d L P T (32 * t.val) ∗ Fly d L q P T 1 (t.val + 1))) ?_) $$ [Ho Hf Hn Hh]
      · refine dite_neg d L (fun h => by have := (wait1_iff t).mp h; omega) ?_
        iintro ⟨⟨Hh, Hn⟩, Ho, Hl⟩
        iapply (wp_wand_r frame _ _)
        isplitl [Hh Hn Ho Hl]
        · iapply (hr (R := iprop(owesW d L O W ∗ Fly d L q P T 1 (t.val + 1))))
          iframe
        · iintro %_ ⟨⟨Ho, Hn⟩, Hf, Hh⟩
          iframe
      · iframe
    · iframe
  · have hp1 : (t.val + 1) % 2 = 0 := by omega
    have hp2 : (t.val + 1 + 1) % 2 = 1 := by omega
    rw [hp, hp1, hp2]
    rw [hp] at hr
    refine dite_neg d L (fun h => by have := (cond1_iff t).mp h; omega) ?_
    by_cases h7 : t.val < 7
    · rw [if_pos (show t.val + 1 < 8 by omega)]
      refine dite_pos d L ((cond2_iff t).mpr ⟨hp, h7⟩) ?_
      iintro ⟨Ho, Hf, Hn, Hh⟩
      iapply (start_pair d L q P T (b := 0) (R := iprop(owesW d L O W ∗ Fly d L q P T 1 t.val ∗ Hists d L P T (32 * t.val))) (t.val + 1) (by omega)
        (off4_eq L t) rfl ?_) $$ [Ho Hf Hn Hh]
      · refine dite_neg d L (fun h => by have := (wait0_iff t).mp h; omega) ?_
        refine dite_pos d L ((wait1_iff t).mpr hp) ?_
        iintro ⟨⟨Ho, Hf, Hh⟩, Hn⟩
        iapply (wait_pair d L q P T (b := 1) (R := iprop(Hists d L P T (32 * t.val) ∗ Fly d L q P T 0 (t.val + 1))) ?_) $$ [Ho Hf Hn Hh]
        · iintro ⟨⟨Hh, Hn⟩, Ho, Hl⟩
          iapply (wp_wand_r frame _ _)
          isplitl [Hh Hn Ho Hl]
          · iapply (hr (R := iprop(owesW d L O W ∗ Fly d L q P T 0 (t.val + 1))))
            iframe
          · iintro %_ ⟨⟨Ho, Hn⟩, Hf, Hh⟩
            iframe
        · iframe
      · iframe
    · rw [if_neg (show ¬ t.val + 1 < 8 by omega)]
      refine dite_neg d L (fun h => h7 ((cond2_iff t).mp h).2) ?_
      refine dite_neg d L (fun h => by have := (wait0_iff t).mp h; omega) ?_
      refine dite_pos d L ((wait1_iff t).mpr hp) ?_
      iintro ⟨Ho, Hf, Hn, Hh⟩
      iapply (wait_pair d L q P T (b := 1) (R := iprop(Hists d L P T (32 * t.val) ∗ Free d L q P T 0)) ?_) $$ [Ho Hf Hn Hh]
      · iintro ⟨⟨Hh, Hn⟩, Ho, Hl⟩
        iapply (wp_wand_r frame _ _)
        isplitl [Hh Hn Ho Hl]
        · iapply (hr (R := iprop(owesW d L O W ∗ Free d L q P T 0)))
          iframe
        · iintro %_ ⟨⟨Ho, Hn⟩, Hf, Hh⟩
          iframe
      · iframe

end Cert.Proof.Hist
-- ==== Proof.Zero.lean ====
/-
  The prologue of a tile's body: both histograms set to zero.
-/
module

public import proofs.«01_k».proof.Proof.Outer
@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "pW" => (Memref.whole Cert.KernelIdeal.main_arg0_scv : Memref Cert.KernelIdeal.sig Kind.scVector Space.hbm Cert.KernelIdeal.S16x1x512x512 EltTy.f32)
local notation "tW" => (Memref.whole Cert.KernelIdeal.main_arg1_scv : Memref Cert.KernelIdeal.sig Kind.scVector Space.hbm Cert.KernelIdeal.S16x1x512x512 EltTy.f32)
local notation "oW" => (Memref.whole Cert.KernelIdeal.main_v0_scv : Memref Cert.KernelIdeal.sig Kind.scVector Space.hbm Cert.KernelIdeal.S32x2x512 EltTy.f32)
local notation "pB" => (Memref.whole Cert.KernelIdeal.cc0_scratch0 : Memref Cert.KernelIdeal.sig Kind.scVector Space.vmem Cert.KernelIdeal.S64x512 EltTy.f32)
local notation "tB" => (Memref.whole Cert.KernelIdeal.cc0_scratch1 : Memref Cert.KernelIdeal.sig Kind.scVector Space.vmem Cert.KernelIdeal.S64x512 EltTy.f32)
local notation "cB" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S512 EltTy.f32)

open Idealize.ShloMosaic.ValueIdx

variable (d : Dev nD) (L : grid0.Coords)

local notation "WP" => wp frame (wpE (defs₀ (F := F)) 𝒱₀ (thr d L) none) Set.univ

/-- The first `n` cells are zero. -/
def Zeroed (n : ℕ) (f : Vec F S512 .f32) : Prop := ∀ i : S512.Idx, (i 0).val < n → f i = (k0_pay191 (F := F)) (ix1 (0 : Fin 16))

/-- A trip of the zeroing loop on the counts. -/
theorem zero_cnt {β : Type} {Q : β → sProp 𝕄} {R : sProp 𝕄} {f : Vec F S512 .f32} {t : Fin k0_t1_loop.trips} (hf : Zeroed (16 * t.val) f)
    {inb : ∀ a, (k0_off1 t) a + S16.size a ≤ S512.size a} {hl : (cB).view.LoadsAt (Rect.unit (s := S512) (k0_off1 t) S16.size inb).toLoadRect}
    {hs : ((cB).access (Rect.unit (s := S512) (k0_off1 t) S16.size inb)).Stores Finset.univ}
    {hm : (Finset.univ : Finset (Rect.unit (s := S512) (k0_off1 t) S16.size inb).shape.Idx) = Finset.univ ∨ ∀ a, (Rect.unit (s := S512) (k0_off1 t) S16.size inb).stride a = 1}
    {k : PUnit → Prog (TpuEff nD τ sig (Elt F) Λ₀ (thr d L).2) β}
    (h : ∀ f', Zeroed (16 * (t.val + 1)) f' → iprop(R ∗ ((cB).view.loc (thr d L) ↦{fullShare} f')) ⊢ WP (k ⟨⟩) Q) :
    iprop(R ∗ ((cB).view.loc (thr d L) ↦{fullShare} f)) ⊢
      WP (Prog.lift (TpuEff.load (cB) (Rect.unit (s := S512) (k0_off1 t) S16.size inb).toLoadRect hl) >>= fun _ =>
        Prog.lift (TpuEff.store (cB) (Rect.unit (s := S512) (k0_off1 t) S16.size inb) (k0_pay191 (F := F)) Finset.univ hs hm) >>= k) Q := by
  change _ ⊢ WP (Prog.op (TpuEff.load (cB) (Rect.unit (s := S512) (k0_off1 t) S16.size inb).toLoadRect hl) fun _ =>
    Prog.op (TpuEff.store (cB) (Rect.unit (s := S512) (k0_off1 t) S16.size inb) (k0_pay191 (F := F)) Finset.univ hs hm) k) Q
  have eo : (k0_off1 t) 0 = 16 * t.val := by rw [k0_off1_eq]; rfl
  iintro ⟨HR, Hb⟩
  iapply (wp_load (defs := defs₀ (F := F)) 𝒱₀ (thr d L) none Set.univ (m := (cB)) (Finset.subset_univ _)) $$ Hb
  iintro Hb
  iapply (wp_store (defs := defs₀ (F := F)) 𝒱₀ (thr d L) none Set.univ (m := (cB)) (r := Rect.unit (s := S512) (k0_off1 t) S16.size inb) (w := k0_pay191 (F := F)) (Mk := Finset.univ)
    (hx := hs) (hm := hm) (k := k) (Q := Q) (f := f) (Finset.subset_univ _)) $$ Hb
  iintro Hb
  iapply (h (((cB).access (Rect.unit (s := S512) (k0_off1 t) S16.size inb)).write (Elt F) f (k0_pay191 (F := F)) Finset.univ) ?_)
  · intro i hi
    by_cases hi' : 16 * t.val ≤ (i 0).val
    · have e : i = ((cB).access (Rect.unit (s := S512) (k0_off1 t) S16.size inb)).emb (ix1 (⟨(i 0).val - 16 * t.val, by omega⟩ : Fin 16)) := by
        funext a
        refine Fin.ext ?_
        fin_cases a
        show (i 0).val = (k0_off1 t) 0 + 1 * ((i 0).val - 16 * t.val)
        omega
      have e1 := View.write_emb_of_mem (v := (cB).access (Rect.unit (s := S512) (k0_off1 t) S16.size inb)) (Val := Elt F) f (k0_pay191 (F := F))
        (M := Finset.univ) (x := ix1 (⟨(i 0).val - 16 * t.val, by omega⟩ : Fin 16)) (Finset.mem_univ _)
      rw [← e] at e1
      exact e1
    · refine (View.write_of_not_mem (v := (cB).access (Rect.unit (s := S512) (k0_off1 t) S16.size inb)) (Val := Elt F) f (k0_pay191 (F := F)) Finset.univ ?_).trans (hf i (by omega))
      intro hmem
      obtain ⟨x, -, e⟩ := Finset.mem_map.mp hmem
      have e0 : (k0_off1 t) 0 + 1 * (x 0).val = (i 0).val := congrArg (fun y : S512.Idx => (y 0).val) e
      omega
  · isplitl [HR] <;> iassumption

/-- A trip of the zeroing loop on the sums. -/
theorem zero_sum {β : Type} {Q : β → sProp 𝕄} {R : sProp 𝕄} {f : Vec F S512 .f32} {t : Fin k0_t1_loop.trips} (hf : Zeroed (16 * t.val) f)
    {inb : ∀ a, (k0_off1 t) a + S16.size a ≤ S512.size a} {hl : (sB).view.LoadsAt (Rect.unit (s := S512) (k0_off1 t) S16.size inb).toLoadRect}
    {hs : ((sB).access (Rect.unit (s := S512) (k0_off1 t) S16.size inb)).Stores Finset.univ}
    {hm : (Finset.univ : Finset (Rect.unit (s := S512) (k0_off1 t) S16.size inb).shape.Idx) = Finset.univ ∨ ∀ a, (Rect.unit (s := S512) (k0_off1 t) S16.size inb).stride a = 1}
    {k : PUnit → Prog (TpuEff nD τ sig (Elt F) Λ₀ (thr d L).2) β}
    (h : ∀ f', Zeroed (16 * (t.val + 1)) f' → iprop(R ∗ ((sB).view.loc (thr d L) ↦{fullShare} f')) ⊢ WP (k ⟨⟩) Q) :
    iprop(R ∗ ((sB).view.loc (thr d L) ↦{fullShare} f)) ⊢
      WP (Prog.lift (TpuEff.load (sB) (Rect.unit (s := S512) (k0_off1 t) S16.size inb).toLoadRect hl) >>= fun _ =>
        Prog.lift (TpuEff.store (sB) (Rect.unit (s := S512) (k0_off1 t) S16.size inb) (k0_pay191 (F := F)) Finset.univ hs hm) >>= k) Q := by
  change _ ⊢ WP (Prog.op (TpuEff.load (sB) (Rect.unit (s := S512) (k0_off1 t) S16.size inb).toLoadRect hl) fun _ =>
    Prog.op (TpuEff.store (sB) (Rect.unit (s := S512) (k0_off1 t) S16.size inb) (k0_pay191 (F := F)) Finset.univ hs hm) k) Q
  have eo : (k0_off1 t) 0 = 16 * t.val := by rw [k0_off1_eq]; rfl
  iintro ⟨HR, Hb⟩
  iapply (wp_load (defs := defs₀ (F := F)) 𝒱₀ (thr d L) none Set.univ (m := (sB)) (Finset.subset_univ _)) $$ Hb
  iintro Hb
  iapply (wp_store (defs := defs₀ (F := F)) 𝒱₀ (thr d L) none Set.univ (m := (sB)) (r := Rect.unit (s := S512) (k0_off1 t) S16.size inb) (w := k0_pay191 (F := F)) (Mk := Finset.univ)
    (hx := hs) (hm := hm) (k := k) (Q := Q) (f := f) (Finset.subset_univ _)) $$ Hb
  iintro Hb
  iapply (h (((sB).access (Rect.unit (s := S512) (k0_off1 t) S16.size inb)).write (Elt F) f (k0_pay191 (F := F)) Finset.univ) ?_)
  · intro i hi
    by_cases hi' : 16 * t.val ≤ (i 0).val
    · have e : i = ((sB).access (Rect.unit (s := S512) (k0_off1 t) S16.size inb)).emb (ix1 (⟨(i 0).val - 16 * t.val, by omega⟩ : Fin 16)) := by
        funext a
        refine Fin.ext ?_
        fin_cases a
        show (i 0).val = (k0_off1 t) 0 + 1 * ((i 0).val - 16 * t.val)
        omega
      have e1 := View.write_emb_of_mem (v := (sB).access (Rect.unit (s := S512) (k0_off1 t) S16.size inb)) (Val := Elt F) f (k0_pay191 (F := F))
        (M := Finset.univ) (x := ix1 (⟨(i 0).val - 16 * t.val, by omega⟩ : Fin 16)) (Finset.mem_univ _)
      rw [← e] at e1
      exact e1
    · refine (View.write_of_not_mem (v := (sB).access (Rect.unit (s := S512) (k0_off1 t) S16.size inb)) (Val := Elt F) f (k0_pay191 (F := F)) Finset.univ ?_).trans (hf i (by omega))
      intro hmem
      obtain ⟨x, -, e⟩ := Finset.mem_map.mp hmem
      have e0 : (k0_off1 t) 0 + 1 * (x 0).val = (i 0).val := congrArg (fun y : S512.Idx => (y 0).val) e
      omega
  · isplitl [HR] <;> iassumption

/-- A histogram zeroed whole is the histogram of no rows. -/
theorem zeroed_all {f : Vec F S512 .f32} (hf : Zeroed 512 f) (v : ℕ → ℕ → Vec F S16 .f32) (T : Vec F S16x1x512x512 .f32) (c : Fin 2) (s : Fin 16) : f = hist T c s v 0 := by
  funext i
  exact hf i (i 0).isLt

/-- Both histograms, the first `n` cells of each zero. -/
def Zeros (n : ℕ) : sProp 𝕄 :=
  iprop(∃ fc : Vec F S512 .f32, ∃ fs : Vec F S512 .f32, ⌜Zeroed n fc ∧ Zeroed n fs⌝ ∗ ((cB).view.loc (thr d L) ↦{fullShare} fc) ∗ ((sB).view.loc (thr d L) ↦{fullShare} fs))

/-- One trip of the zeroing loop. -/
theorem zero_trip (t : Fin k0_t1_loop.trips) :
    Zeros (F := F) d L (16 * t.val) ⊢ WP
      (k0_t1_body (F := F) L (pW) (Memref.isWhole_whole _) (tW) (Memref.isWhole_whole _) (oW) (Memref.isWhole_whole _)
        (pB) (Memref.isWhole_whole _) (tB) (Memref.isWhole_whole _) (cB) (Memref.isWhole_whole _) (sB) (Memref.isWhole_whole _)
        cc0_scratch4 cc0_scratch5 cc0_scratch6 cc0_scratch7 cc0_scoped0 cc0_scoped1 t ())
      fun _ => Zeros (F := F) d L (16 * (t.val + 1)) := by
  unfold Zeros k0_t1_body
  iintro ⟨%fc, %fs, %hz, Hc, Hs⟩
  iapply (zero_cnt d L (R := iprop((sB).view.loc (thr d L) ↦{fullShare} fs)) hz.1 (fun fc' hc => ?_)) $$ [Hc Hs]
  · iintro ⟨Hs, Hc⟩
    iapply (zero_sum d L (R := iprop((cB).view.loc (thr d L) ↦{fullShare} fc')) hz.2 (fun fs' hs => ?_)) $$ [Hc Hs]
    · rw [wp_pure]
      iintro ⟨Hc, Hs⟩
      imodintro
      iexists fc', fs'
      isplitr
      · ipureintro; exact ⟨hc, hs⟩
      · isplitl [Hc] <;> iassumption
    · isplitl [Hc] <;> iassumption
  · isplitl [Hs] <;> iassumption

end Cert.Proof.Hist
-- ==== Proof.Body.lean ====
/-
  A tile's body whole: the histograms zeroed, the two first chunks started, the outer loop, and both histograms copied to
  the tile's rows of the result array.
-/
module

public import proofs.«01_k».proof.Proof.Zero
@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "pW" => (Memref.whole Cert.KernelIdeal.main_arg0_scv : Memref Cert.KernelIdeal.sig Kind.scVector Space.hbm Cert.KernelIdeal.S16x1x512x512 EltTy.f32)
local notation "tW" => (Memref.whole Cert.KernelIdeal.main_arg1_scv : Memref Cert.KernelIdeal.sig Kind.scVector Space.hbm Cert.KernelIdeal.S16x1x512x512 EltTy.f32)
local notation "oW" => (Memref.whole Cert.KernelIdeal.main_v0_scv : Memref Cert.KernelIdeal.sig Kind.scVector Space.hbm Cert.KernelIdeal.S32x2x512 EltTy.f32)
local notation "pB" => (Memref.whole Cert.KernelIdeal.cc0_scratch0 : Memref Cert.KernelIdeal.sig Kind.scVector Space.vmem Cert.KernelIdeal.S64x512 EltTy.f32)
local notation "tB" => (Memref.whole Cert.KernelIdeal.cc0_scratch1 : Memref Cert.KernelIdeal.sig Kind.scVector Space.vmem Cert.KernelIdeal.S64x512 EltTy.f32)
local notation "cB" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S512 EltTy.f32)

open Idealize.ShloMosaic.ValueIdx

variable (d : Dev nD) (L : grid0.Coords)

local notation "WP" => wp frame (wpE (defs₀ (F := F)) 𝒱₀ (thr d L) none) Set.univ

/-- The tile's number among the thirty-two. -/
abbrev wid (L : grid0.Coords) : ℕ := 2 * (subOf L).val + (coreOf L).val

/-- The tile's rows of the result array. -/
def outRow (L : grid0.Coords) : Finset S32x2x512.Idx := Finset.univ.filter fun y => (y 0).val = wid L

/-- One row of 512 of the result array, as the copies address it. -/
abbrev outVw (o : Fin 3 → ℕ) (inb : ∀ a, o a + S1x1x512.size a ≤ S32x2x512.size a) : Memref sig .scVector .hbm S512 .f32 :=
  ((oW).slice (Rect.unit (s := S32x2x512) o S1x1x512.size inb) (fun _ => rfl)).squeeze S512 squeezes_S1x1x512_S512

/-- The units a histogram's copy credits. -/
abbrev crdO : ℕ := (outVw ![0, 0, 0] (by decide)).view.dmaCredit

/-- Where a row's copy puts the element `i`. -/
theorem out_emb {o : Fin 3 → ℕ} {inb : ∀ a, o a + S1x1x512.size a ≤ S32x2x512.size a} {r : ℕ} (ho : o = ![wid L, r, 0]) (x : S512.Idx) :
    (((outVw o inb).view.emb x : S32x2x512.Idx) 0).val = wid L ∧ (((outVw o inb).view.emb x : S32x2x512.Idx) 1).val = r
      ∧ (((outVw o inb).view.emb x : S32x2x512.Idx) 2).val = (x 0).val := by
  subst ho
  obtain ⟨i, rfl⟩ : ∃ i : Fin 512, x = ix1 i := ⟨x 0, by funext a; fin_cases a; rfl⟩
  have e : (outVw ![wid L, r, 0] inb).view.emb (ix1 i)
      = (Rect.unit (s := S32x2x512) ![wid L, r, 0] S1x1x512.size inb).emb (Shape.reshapeEquiv squeezes_S1x1x512_S512.numel_eq (ix1 i)) := rfl
  have e2 : Shape.reshapeEquiv squeezes_S1x1x512_S512.numel_eq (ix1 i) = ix3 (0 : Fin 1) (0 : Fin 1) i :=
    Shape.reshapeEquiv_eq_of_rowMajor _ (by
      refine (Shape.rowMajor_val_three (ix3 (0 : Fin 1) (0 : Fin 1) i)).trans ?_
      refine Eq.trans ?_ (Shape.rowMajor_val_one (ix1 i)).symm
      show ((0 * 1 + 0) * 512 + i.val) = i.val
      omega)
  rw [e, e2]
  refine ⟨?_, ?_, ?_⟩
  · show wid L + 1 * 0 = wid L; omega
  · show r + 1 * 0 = r; omega
  · show 0 + 1 * i.val = i.val; omega

/-- A row's copy stays within the tile's rows. -/
theorem out_sub {o : Fin 3 → ℕ} {inb : ∀ a, o a + S1x1x512.size a ≤ S32x2x512.size a} {r : ℕ} (ho : o = ![wid L, r, 0]) :
    (outVw o inb).view.set ⊆ outRow L := by
  intro y hy
  obtain ⟨x, -, rfl⟩ := Finset.mem_map.mp hy
  exact Finset.mem_filter.mpr ⟨Finset.mem_univ _, (out_emb L ho x).1⟩

/-- What the tile's rows hold after a row's copy. -/
theorem out_write {o : Fin 3 → ℕ} {inb : ∀ a, o a + S1x1x512.size a ≤ S32x2x512.size a} {r : ℕ} (ho : o = ![wid L, r, 0])
    (f : Vec F S32x2x512 .f32) (w : Vec F S512 .f32) (y : S32x2x512.Idx) (hy : y ∈ outRow L) :
    (outVw o inb).view.write (Elt F) f w Finset.univ y = if (y 1).val = r then w (ix1 (y 2)) else f y := by
  have hy0 : (y 0).val = wid L := (Finset.mem_filter.mp hy).2
  have he := out_emb L (inb := inb) ho
  split
  · rename_i hr
    have e : y = (outVw o inb).view.emb (ix1 (y 2)) := by
      funext a
      refine Fin.ext ?_
      fin_cases a
      · exact hy0.trans (he _).1.symm
      · exact hr.trans (he _).2.1.symm
      · exact (he (ix1 (y 2))).2.2.symm
    have e1 := View.write_emb_of_mem (v := (outVw o inb).view) (Val := Elt F) f w (M := Finset.univ) (x := ix1 (y 2)) (Finset.mem_univ _)
    rw [← e] at e1
    exact e1
  · rename_i hr
    refine View.write_of_not_mem (v := (outVw o inb).view) (Val := Elt F) f w Finset.univ ?_
    intro hmem
    obtain ⟨x, -, e⟩ := Finset.mem_map.mp hmem
    exact hr (e ▸ (he x).2.1)

/-- Both rows copied: the tile's rows of the result. -/
theorem out_val (P T : Vec F S16x1x512x512 .f32) {o o' : Fin 3 → ℕ} {inb : ∀ a, o a + S1x1x512.size a ≤ S32x2x512.size a} {inb' : ∀ a, o' a + S1x1x512.size a ≤ S32x2x512.size a}
    (ho : o = ![wid L, 0, 0]) (ho' : o' = ![wid L, 1, 0]) (f : Vec F S32x2x512 .f32) (y : S32x2x512.Idx) (hy : y ∈ outRow L) :
    (outVw o' inb').view.write (Elt F) ((outVw o inb).view.write (Elt F) f (cntH T (coreOf L) (subOf L) 256) Finset.univ)
      (sumH P T (coreOf L) (subOf L) 256) Finset.univ y = outV P T y := by
  have hy0 : (y 0).val = 2 * (subOf L).val + (coreOf L).val := (Finset.mem_filter.mp hy).2
  have hc : (coreOf L).val < 2 := (coreOf L).isLt
  have hs : (subOf L).val < 16 := (subOf L).isLt
  have hy1 : (y 1).val < 2 := (y 1).isLt
  have ec : Fin.ofNat 2 (y 0).val = coreOf L := Fin.ext (show (y 0).val % 2 = (coreOf L).val by omega)
  have es : Fin.ofNat 16 ((y 0).val / 2) = subOf L := Fin.ext (show (y 0).val / 2 % 16 = (subOf L).val by omega)
  rw [out_write L ho' _ _ y hy, out_write L ho _ _ y hy]
  unfold outV
  rw [ec, es]
  by_cases h0 : (y 1).val = 0
  · rw [if_neg (show ¬ (y 1).val = 1 by omega), if_pos h0, if_pos h0]
  · rw [if_pos (show (y 1).val = 1 by omega), if_neg h0]

/-- A histogram's copy to the result array and the wait for it: the counts. -/
theorem put_cnt {β : Type} {Q : β → sProp 𝕄} {R : sProp 𝕄} {O : CellTallies nD τ sig (HIx 1)} {W : Waits sig (HIx 1)} {sm : DmaSem sig} {w : Vec F S512 .f32} {f : Vec F S32x2x512 .f32}
    {o : Fin 3 → ℕ} {inb inb' : ∀ a, o a + S1x1x512.size a ≤ S32x2x512.size a} {h1 h1' : (cB).view.WordExact} {h2 : (outVw o inb).view.WordExact} {h2' : (outVw o inb').view.WordExact}
    {h3 : DmaTarget.Typed (nD := nD) Space.vmem (.dma sm) (DmaTarget.here (p := (thr d L).2) (outVw o inb))}
    {k : PUnit → Prog (TpuEff nD τ sig (Elt F) Λ₀ (thr d L).2) β} {r : ℕ} (ho : o = ![2 * (subOf L).val + (coreOf L).val, r, 0])
    (h : iprop(R ∗ owesW d L O W ∗ ((oW).view.loc (thr d L) ↦[outRow L]{fullShare} ((outVw o inb).view.write (Elt F) f w Finset.univ))
      ∗ ((cB).view.loc (thr d L) ↦{fullShare} w) ∗ semVal (thr d L, SemLoc.dma sm) 0) ⊢ WP (k ⟨⟩) Q) :
    iprop(R ∗ owesW d L O W ∗ ((oW).view.loc (thr d L) ↦[outRow L]{fullShare} f) ∗ ((cB).view.loc (thr d L) ↦{fullShare} w) ∗ semVal (thr d L, SemLoc.dma sm) 0)
      ⊢ WP (Prog.lift (TpuEff.enqueueDma (cB) (.here (outVw o inb)) (.dma sm) h1 h2 h3) >>= fun _ =>
          Prog.lift (TpuEff.waitDma2 sm (cB) (outVw o inb') h1' h2') >>= k) Q := by
  change _ ⊢ WP (Prog.op (TpuEff.enqueueDma (cB) (.here (outVw o inb)) (.dma sm) h1 h2 h3) fun _ => Prog.op (TpuEff.waitDma2 sm (cB) (outVw o inb') h1' h2') k) Q
  have eb : ((cB).view.loc (thr d L) ↦{fullShare} w : sProp 𝕄) = ((cB).view.loc (thr d L) ↦[(cB).view.set]{fullShare} w) := by
    rw [show (cB).view.set = Finset.univ from View.set_whole _]
  rw [eb] at h ⊢
  unfold owesW at h ⊢
  iintro ⟨HR, ⟨#Hmw, %W', %hW, Ho⟩, Hout, Hb, Hv⟩
  iapply (Transfers.wp_dmaLocal (defs := defs₀ (F := F)) (src := (cB)) (dst := outVw o inb) countersEmb 𝒱₀ (thr d L) none none crdO rfl
    (View.amount_pos _ (.dma sm) (show 0 < S512.numel by decide)) (out_sub L ho)) $$ [Hout Hb Hv]
  · isplitl [Hb]; · iexact Hb
    isplitl [Hout] <;> iassumption
  iintro Hf
  ihave Hmw1 := (Transfers.MayWaits.elim (SemLoc.dma sm)) $$ Hmw
  iapply (Transfers.wp_waitLocalO (defs := defs₀ (F := F)) (srcw := (cB)) (dstw := outVw o inb') (k := k) (Q := Q) countersEmb 𝒱₀ (thr d L) none none (N := crdO) rfl) $$ [Hf Ho Hmw1]
  · isplitl [Hf]; · iexact Hf
    isplitl [Ho] <;> iassumption
  iintro ⟨⟨Hout, Hb⟩, Hv, Ho⟩
  iapply h
  isplitl [HR]; · iexact HR
  isplitl [Ho]
  · isplitr; · iexact Hmw
    iexists (insert (SemLoc.dma sm, none) W')
    isplitr
    · ipureintro
      intro p hp
      rcases Finset.mem_insert.mp hp with hp | hp
      · exact Or.inr (by rw [hp])
      · exact hW p hp
    · iexact Ho
  isplitl [Hout]; · iexact Hout
  isplitl [Hb] <;> iassumption

/-- A histogram's copy to the result array and the wait for it: the sums. -/
theorem put_sum {β : Type} {Q : β → sProp 𝕄} {R : sProp 𝕄} {O : CellTallies nD τ sig (HIx 1)} {W : Waits sig (HIx 1)} {sm : DmaSem sig} {w : Vec F S512 .f32} {f : Vec F S32x2x512 .f32}
    {o : Fin 3 → ℕ} {inb inb' : ∀ a, o a + S1x1x512.size a ≤ S32x2x512.size a} {h1 h1' : (sB).view.WordExact} {h2 : (outVw o inb).view.WordExact} {h2' : (outVw o inb').view.WordExact}
    {h3 : DmaTarget.Typed (nD := nD) Space.vmem (.dma sm) (DmaTarget.here (p := (thr d L).2) (outVw o inb))}
    {k : PUnit → Prog (TpuEff nD τ sig (Elt F) Λ₀ (thr d L).2) β} {r : ℕ} (ho : o = ![2 * (subOf L).val + (coreOf L).val, r, 0])
    (h : iprop(R ∗ owesW d L O W ∗ ((oW).view.loc (thr d L) ↦[outRow L]{fullShare} ((outVw o inb).view.write (Elt F) f w Finset.univ))
      ∗ ((sB).view.loc (thr d L) ↦{fullShare} w) ∗ semVal (thr d L, SemLoc.dma sm) 0) ⊢ WP (k ⟨⟩) Q) :
    iprop(R ∗ owesW d L O W ∗ ((oW).view.loc (thr d L) ↦[outRow L]{fullShare} f) ∗ ((sB).view.loc (thr d L) ↦{fullShare} w) ∗ semVal (thr d L, SemLoc.dma sm) 0)
      ⊢ WP (Prog.lift (TpuEff.enqueueDma (sB) (.here (outVw o inb)) (.dma sm) h1 h2 h3) >>= fun _ =>
          Prog.lift (TpuEff.waitDma2 sm (sB) (outVw o inb') h1' h2') >>= k) Q := by
  change _ ⊢ WP (Prog.op (TpuEff.enqueueDma (sB) (.here (outVw o inb)) (.dma sm) h1 h2 h3) fun _ => Prog.op (TpuEff.waitDma2 sm (sB) (outVw o inb') h1' h2') k) Q
  have eb : ((sB).view.loc (thr d L) ↦{fullShare} w : sProp 𝕄) = ((sB).view.loc (thr d L) ↦[(sB).view.set]{fullShare} w) := by
    rw [show (sB).view.set = Finset.univ from View.set_whole _]
  rw [eb] at h ⊢
  unfold owesW at h ⊢
  iintro ⟨HR, ⟨#Hmw, %W', %hW, Ho⟩, Hout, Hb, Hv⟩
  iapply (Transfers.wp_dmaLocal (defs := defs₀ (F := F)) (src := (sB)) (dst := outVw o inb) countersEmb 𝒱₀ (thr d L) none none crdO rfl
    (View.amount_pos _ (.dma sm) (show 0 < S512.numel by decide)) (out_sub L ho)) $$ [Hout Hb Hv]
  · isplitl [Hb]; · iexact Hb
    isplitl [Hout] <;> iassumption
  iintro Hf
  ihave Hmw1 := (Transfers.MayWaits.elim (SemLoc.dma sm)) $$ Hmw
  iapply (Transfers.wp_waitLocalO (defs := defs₀ (F := F)) (srcw := (sB)) (dstw := outVw o inb') (k := k) (Q := Q) countersEmb 𝒱₀ (thr d L) none none (N := crdO) rfl) $$ [Hf Ho Hmw1]
  · isplitl [Hf]; · iexact Hf
    isplitl [Ho] <;> iassumption
  iintro ⟨⟨Hout, Hb⟩, Hv, Ho⟩
  iapply h
  isplitl [HR]; · iexact HR
  isplitl [Ho]
  · isplitr; · iexact Hmw
    iexists (insert (SemLoc.dma sm, none) W')
    isplitr
    · ipureintro
      intro p hp
      rcases Finset.mem_insert.mp hp with hp | hp
      · exact Or.inr (by rw [hp])
      · exact hW p hp
    · iexact Ho
  isplitl [Hout]; · iexact Hout
  isplitl [Hb] <;> iassumption

variable (q : ℕ → PosShare TreeShare) (P T : Vec F S16x1x512x512 .f32)

/-- A histogram's buffer at any contents. -/
def Scr : sProp 𝕄 := iprop((∃ fc : Vec F S512 .f32, ((cB).view.loc (thr d L) ↦{fullShare} fc)) ∗ (∃ fs : Vec F S512 .f32, ((sB).view.loc (thr d L) ↦{fullShare} fs)))

/-- The first chunks, the eight outer trips and the counts' copy. -/
theorem loops (hT : AllIn T) (O : CellTallies nD τ sig (HIx 1)) (W : Waits sig (HIx 1)) (fo : Vec F S32x2x512 .f32) (v29 : BitVec 32) :
    iprop(owesW d L O W ∗ Free d L q P T 0 ∗ Free d L q P T 1 ∗ Hists d L P T 0 ∗ ((oW).view.loc (thr d L) ↦[outRow L]{fullShare} fo)
      ∗ semVal (thr d L, SemLoc.dma cc0_scoped0.sem) 0)
    ⊢ WP (k0_part16 (F := F) L (pW) (Memref.isWhole_whole _) (tW) (Memref.isWhole_whole _) (oW) (Memref.isWhole_whole _)
        (pB) (Memref.isWhole_whole _) (tB) (Memref.isWhole_whole _) (cB) (Memref.isWhole_whole _) (sB) (Memref.isWhole_whole _)
        cc0_scratch4 cc0_scratch5 cc0_scratch6 cc0_scratch7 cc0_scoped0 cc0_scoped1 v29 ones (iota .scVector S16 32 [0] iota_S16_d0_w32_scVector) 16#32)
      fun _ => iprop((Free d L q P T 0 ∗ Free d L q P T 1 ∗ ((sB).view.loc (thr d L) ↦{fullShare} sumH P T (coreOf L) (subOf L) 256)) ∗ owesW d L O W
        ∗ ((oW).view.loc (thr d L) ↦[outRow L]{fullShare} ((outVw (k0_off6 L) (k0_off6_inb L)).view.write (Elt F) fo (cntH T (coreOf L) (subOf L) 256) Finset.univ))
        ∗ ((cB).view.loc (thr d L) ↦{fullShare} cntH T (coreOf L) (subOf L) 256) ∗ semVal (thr d L, SemLoc.dma cc0_scoped0.sem) 0) := by
  rw [k0_part16_eq_skeleton]; unfold k0_part16_skel
  iintro ⟨Ho, Hf0, Hf1, Hh, Hout, Hv⟩
  iapply (start_pair d L q P T (b := 0) (R := iprop(owesW d L O W ∗ Free d L q P T 1 ∗ Hists d L P T 0 ∗ ((oW).view.loc (thr d L) ↦[outRow L]{fullShare} fo)
      ∗ semVal (thr d L, SemLoc.dma cc0_scoped0.sem) 0)) 0 (by omega) (off2_eq L) rfl ?_) $$ [Ho Hf0 Hf1 Hh Hout Hv]
  · iintro ⟨⟨Ho, Hf1, Hh, Hout, Hv⟩, Hy⟩
    iapply (Scf.wp_for_bind _ _ Set.univ k0_t2_loop.lb k0_t2_loop.ub k0_t2_loop.st k0_t2_ok PUnit.unit _
      (fun n _ => OInv d L q P T O W n) (fun k _ => outer_trip d L q P T hT O W k v29)) $$ [Ho Hy Hf1 Hh]
    · unfold OInv
      rw [if_pos (show 0 < 8 by omega)]
      iframe
    iintro %_ HI
    unfold OInv
    rw [show Scf.trips k0_t2_loop.lb k0_t2_loop.ub k0_t2_loop.st = 8 from t2_trips, if_neg (show ¬ 8 < 8 by omega)]
    icases HI with ⟨Ho, Hf0, Hf1, Hh⟩
    unfold Hists
    icases Hh with ⟨Hc, Hs⟩
    iapply (put_cnt d L (r := 0) (R := iprop(Free d L q P T 0 ∗ Free d L q P T 1 ∗ ((sB).view.loc (thr d L) ↦{fullShare} sumH P T (coreOf L) (subOf L) 256)))
      (k0_off6_eq L) ?_) $$ [Ho Hf0 Hf1 Hc Hs Hout Hv]
    · exact ret_step d L .rfl
    · iframe
  · iframe

/-- One part after another: the first part's result feeds the rest. -/
theorem seq_step {α β : Type} {R R' : sProp 𝕄} {Q' : α → sProp 𝕄} {Q : β → sProp 𝕄} {p : Prog (TpuEff nD τ sig (Elt F) Λ₀ (thr d L).2) α}
    {k : α → Prog (TpuEff nD τ sig (Elt F) Λ₀ (thr d L).2) β} (h : R ⊢ WP p Q') (h' : ∀ v, iprop(R' ∗ Q' v) ⊢ WP (k v) Q) :
    iprop(R' ∗ R) ⊢ WP (p >>= k) Q := by
  refine bind_step d L ?_
  iintro ⟨HR', HR⟩
  iapply (wp_wand_r frame _ _)
  isplitl [HR]
  · iapply h
    iexact HR
  · iintro %v HQ
    iapply (h' v)
    iframe

/-- A tile's body: its rows of the result array end at the histograms of its half of its image. -/
theorem body (hT : AllIn T) (O : CellTallies nD τ sig (HIx 1)) (W : Waits sig (HIx 1)) (fo : Vec F S32x2x512 .f32) :
    iprop(owesW d L O W ∗ Free d L q P T 0 ∗ Free d L q P T 1 ∗ Scr (F := F) d L ∗ ((oW).view.loc (thr d L) ↦[outRow L]{fullShare} fo)
      ∗ semVal (thr d L, SemLoc.dma cc0_scoped0.sem) 0 ∗ semVal (thr d L, SemLoc.dma cc0_scoped1.sem) 0)
    ⊢ WP (cc0__hist_body (F := F) L (pW) (Memref.isWhole_whole _) (tW) (Memref.isWhole_whole _) (oW) (Memref.isWhole_whole _)
        (pB) (Memref.isWhole_whole _) (tB) (Memref.isWhole_whole _) (cB) (Memref.isWhole_whole _) (sB) (Memref.isWhole_whole _)
        cc0_scratch4 cc0_scratch5 cc0_scratch6 cc0_scratch7 cc0_scoped0 cc0_scoped1)
      fun _ => iprop(owesW d L O W ∗ Free d L q P T 0 ∗ Free d L q P T 1 ∗ Scr (F := F) d L ∗ ((oW).view.loc (thr d L) ↦[outRow L]{fullShare} outV P T)
        ∗ semVal (thr d L, SemLoc.dma cc0_scoped0.sem) 0 ∗ semVal (thr d L, SemLoc.dma cc0_scoped1.sem) 0) := by
  rw [cc0__hist_body_eq_skeleton]
  unfold cc0__hist_body_skel
  refine bind_step d L ?_
  rw [k0_part15_eq_skeleton]; unfold k0_part15_skel
  unfold Scr
  iintro ⟨Ho, Hf0, Hf1, ⟨⟨%fc, Hc⟩, ⟨%fs, Hs⟩⟩, Hout, Hv0, Hv1⟩
  iapply (Scf.wp_for_bind _ _ Set.univ k0_t1_loop.lb k0_t1_loop.ub k0_t1_loop.st k0_t1_ok PUnit.unit _
    (fun n _ => Zeros (F := F) d L (16 * n)) (fun k _ => zero_trip d L k)) $$ [Hc Hs]
  · unfold Zeros
    iexists fc, fs
    isplitr
    · ipureintro
      exact ⟨fun i hi => absurd hi (by omega), fun i hi => absurd hi (by omega)⟩
    · isplitl [Hc] <;> iassumption
  iintro %_ HZ
  rw [wp_pure]
  imodintro
  unfold Zeros
  icases HZ with ⟨%fc', %fs', %hz, Hc, Hs⟩
  have ez : 16 * Scf.trips k0_t1_loop.lb k0_t1_loop.ub k0_t1_loop.st = 512 := congrArg (16 * ·) t1_trips
  rw [ez] at hz
  rw [zeroed_all hz.1 (one) T (coreOf L) (subOf L), zeroed_all hz.2 (dif P T (coreOf L) (subOf L)) T (coreOf L) (subOf L)]
  iapply (seq_step d L (R' := semVal (thr d L, SemLoc.dma cc0_scoped1.sem) 0) (loops d L q P T hT O W fo _) ?_) $$ [Ho Hf0 Hf1 Hout Hv0 Hv1 Hc Hs]
  · intro _
    iintro ⟨Hv1, ⟨Hf0, Hf1, Hs⟩, Ho, Hout, Hc, Hv0⟩
    iapply (put_sum d L (r := 1) (R := iprop(Free d L q P T 0 ∗ Free d L q P T 1 ∗ ((cB).view.loc (thr d L) ↦{fullShare} cntH T (coreOf L) (subOf L) 256)
        ∗ semVal (thr d L, SemLoc.dma cc0_scoped0.sem) 0)) (k0_off7_eq L) ?_) $$ [Ho Hf0 Hf1 Hc Hs Hout Hv0 Hv1]
    · refine ret_step d L ?_
      have e : ((oW).view.loc (thr d L) ↦[outRow L]{fullShare} ((outVw (k0_off7 L) (k0_off7_inb L)).view.write (Elt F)
            ((outVw (k0_off6 L) (k0_off6_inb L)).view.write (Elt F) fo (cntH T (coreOf L) (subOf L) 256) Finset.univ)
            (sumH P T (coreOf L) (subOf L) 256) Finset.univ) : sProp 𝕄) = ((oW).view.loc (thr d L) ↦[outRow L]{fullShare} outV P T) :=
        pointsTo_congr (out_val L P T (k0_off6_eq L) (k0_off7_eq L) fo)
      rw [e]
      iintro ⟨⟨Hf0, Hf1, Hc, Hv0⟩, Ho, Hout, Hs, Hv1⟩
      iframe
      isplitl [Hc]
      · iexists _; iexact Hc
      · iexists _; iexact Hs
    · iframe
  · isplitl [Hv1]; · iexact Hv1
    isplitl [Ho]; · iexact Ho
    isplitl [Hf0]; · iexact Hf0
    isplitl [Hf1]; · iexact Hf1
    isplitl [Hc Hs]
    · unfold Hists
      isplitl [Hc]; · iexact Hc
      iexact Hs
    isplitl [Hout]; · iexact Hout
    iexact Hv0

end Cert.Proof.Hist
-- ==== Proof.Tile.lean ====
/-
  A tile's task as the launch asks for it: its scoped buffers and semaphores opened into the halves, the histograms and
  the cells, the body run, and everything put back.
-/
module

public import proofs.«01_k».proof.Proof.Body
@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "pW" => (Memref.whole Cert.KernelIdeal.main_arg0_scv : Memref Cert.KernelIdeal.sig Kind.scVector Space.hbm Cert.KernelIdeal.S16x1x512x512 EltTy.f32)
local notation "tW" => (Memref.whole Cert.KernelIdeal.main_arg1_scv : Memref Cert.KernelIdeal.sig Kind.scVector Space.hbm Cert.KernelIdeal.S16x1x512x512 EltTy.f32)
local notation "oW" => (Memref.whole Cert.KernelIdeal.main_v0_scv : Memref Cert.KernelIdeal.sig Kind.scVector Space.hbm Cert.KernelIdeal.S32x2x512 EltTy.f32)
local notation "pB" => (Memref.whole Cert.KernelIdeal.cc0_scratch0 : Memref Cert.KernelIdeal.sig Kind.scVector Space.vmem Cert.KernelIdeal.S64x512 EltTy.f32)
local notation "tB" => (Memref.whole Cert.KernelIdeal.cc0_scratch1 : Memref Cert.KernelIdeal.sig Kind.scVector Space.vmem Cert.KernelIdeal.S64x512 EltTy.f32)
local notation "cB" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S512 EltTy.f32)

variable (d : Dev nD) (L : grid0.Coords)

local notation "WP" => wp frame (wpE (defs₀ (F := F)) 𝒱₀ (thr d L) none) Set.univ

/-! ## The scoped semaphores and buffers of a tile -/

/-- A transfer cell of the tile. -/
abbrev cell (a : DmaSem sig) : GSem nD τ sig := (thr d L, SemLoc.dma a)

/-- Different semaphores are different cells. -/
theorem cell_ne {a b : DmaSem sig} (h : a ≠ b) : cell d L a ≠ cell d L b := fun e => h (SemLoc.dma.inj (Prod.mk.inj e).2)

/-- A scoped semaphore's cell is the tile's own. -/
theorem own_cell {a : DmaSem sig} (h : (SemLoc.dma a : SemLoc sig).isScoped .scVector = true) : cell d L a ∈ ownCells (thr d L) :=
  (mem_ownCells (g := cell d L a)).mpr ⟨rfl, h⟩

/-- The cells the body does not name. -/
def restCells : Finset (GSem nD τ sig) := (((((((ownCells (thr d L)).erase (cell d L cc0_scratch4.sem)).erase (cell d L cc0_scratch5.sem)).erase (cell d L cc0_scratch6.sem)).erase (cell d L cc0_scratch7.sem)).erase (cell d L cc0_scoped0.sem)).erase (cell d L cc0_scoped1.sem))

/-- The tile's scoped semaphores: the six the body names and the rest. -/
theorem own_sems : (ownSems0 (thr d L) : sProp 𝕄)
    = iprop(semVal (cell d L cc0_scratch4.sem) 0 ∗ semVal (cell d L cc0_scratch5.sem) 0 ∗ semVal (cell d L cc0_scratch6.sem) 0 ∗ semVal (cell d L cc0_scratch7.sem) 0 ∗ semVal (cell d L cc0_scoped0.sem) 0 ∗ semVal (cell d L cc0_scoped1.sem) 0 ∗ bigSep (restCells d L) fun g => semVal g 0) := by
  unfold SparseCore.Cfg.ownSems0 restCells
  rw [SparseCore.bigSep_erase' (own_cell d L (a := cc0_scratch4.sem) (by decide)),
    SparseCore.bigSep_erase' (Finset.mem_erase.mpr ⟨cell_ne d L (show cc0_scratch5.sem ≠ cc0_scratch4.sem by decide), (own_cell d L (a := cc0_scratch5.sem) (by decide))⟩),
    SparseCore.bigSep_erase' (Finset.mem_erase.mpr ⟨cell_ne d L (show cc0_scratch6.sem ≠ cc0_scratch5.sem by decide), (Finset.mem_erase.mpr ⟨cell_ne d L (show cc0_scratch6.sem ≠ cc0_scratch4.sem by decide), (own_cell d L (a := cc0_scratch6.sem) (by decide))⟩)⟩),
    SparseCore.bigSep_erase' (Finset.mem_erase.mpr ⟨cell_ne d L (show cc0_scratch7.sem ≠ cc0_scratch6.sem by decide), (Finset.mem_erase.mpr ⟨cell_ne d L (show cc0_scratch7.sem ≠ cc0_scratch5.sem by decide), (Finset.mem_erase.mpr ⟨cell_ne d L (show cc0_scratch7.sem ≠ cc0_scratch4.sem by decide), (own_cell d L (a := cc0_scratch7.sem) (by decide))⟩)⟩)⟩),
    SparseCore.bigSep_erase' (Finset.mem_erase.mpr ⟨cell_ne d L (show cc0_scoped0.sem ≠ cc0_scratch7.sem by decide), (Finset.mem_erase.mpr ⟨cell_ne d L (show cc0_scoped0.sem ≠ cc0_scratch6.sem by decide), (Finset.mem_erase.mpr ⟨cell_ne d L (show cc0_scoped0.sem ≠ cc0_scratch5.sem by decide), (Finset.mem_erase.mpr ⟨cell_ne d L (show cc0_scoped0.sem ≠ cc0_scratch4.sem by decide), (own_cell d L (a := cc0_scoped0.sem) (by decide))⟩)⟩)⟩)⟩),
    SparseCore.bigSep_erase' (Finset.mem_erase.mpr ⟨cell_ne d L (show cc0_scoped1.sem ≠ cc0_scoped0.sem by decide), (Finset.mem_erase.mpr ⟨cell_ne d L (show cc0_scoped1.sem ≠ cc0_scratch7.sem by decide), (Finset.mem_erase.mpr ⟨cell_ne d L (show cc0_scoped1.sem ≠ cc0_scratch6.sem by decide), (Finset.mem_erase.mpr ⟨cell_ne d L (show cc0_scoped1.sem ≠ cc0_scratch5.sem by decide), (Finset.mem_erase.mpr ⟨cell_ne d L (show cc0_scoped1.sem ≠ cc0_scratch4.sem by decide), (own_cell d L (a := cc0_scoped1.sem) (by decide))⟩)⟩)⟩)⟩)⟩)]

/-- The buffers the body does not name. -/
def restRefs : Finset (DevRef τ sig) := (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))

/-- The tile's scoped buffers: the four the body names, at some contents, and the rest. -/
theorem own_bufs : (ownBufs (thr d L) : sProp 𝕄)
    = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩)]

/-! ## The halves of a staging buffer -/

/-- The two halves are apart. -/
theorem half_disj : Disjoint (half 0) (half 1) :=
  Finset.disjoint_left.mpr fun _ h h' => absurd ((Finset.mem_filter.mp h).2.symm.trans (Finset.mem_filter.mp h').2) (by decide)

/-- The two halves are the buffer. -/
theorem half_union : half 0 ∪ half 1 = Finset.univ := by
  refine Finset.eq_univ_iff_forall.mpr fun y => ?_
  have h : (y 0).val < 64 := (y 0).isLt
  rcases (show (y 0).val / 32 = 0 ∨ (y 0).val / 32 = 1 by omega) with h | h
  · exact Finset.mem_union_left _ (Finset.mem_filter.mpr ⟨Finset.mem_univ _, h⟩)
  · exact Finset.mem_union_right _ (Finset.mem_filter.mpr ⟨Finset.mem_univ _, h⟩)

/-- A staging buffer is its two halves, -/
theorem split_p (f : Vec F S64x512 .f32) : ((pB).view.loc (thr d L) ↦{fullShare} f : sProp 𝕄)
    ⊢ iprop(((pB).view.loc (thr d L) ↦[half 0]{fullShare} f) ∗ ((pB).view.loc (thr d L) ↦[half 1]{fullShare} f)) := by
  refine BIBase.Entails.trans (Entails.of_eq ?_) (pointsTo_union half_disj).1
  rw [half_union]

/-- and its two halves are it again. -/
theorem join_p (f g : Vec F S64x512 .f32) : iprop(((pB).view.loc (thr d L) ↦[half 0]{fullShare} f) ∗ ((pB).view.loc (thr d L) ↦[half 1]{fullShare} g))
    ⊢ (iprop(∃ h : Vec F S64x512 .f32, (pB).view.loc (thr d L) ↦{fullShare} h) : sProp 𝕄) := by
  refine BIBase.Entails.trans (pointsTo_join half_disj) ?_
  rw [half_union]
  iintro H
  iexists _; iexact H

/-- A staging buffer is its two halves, -/
theorem split_t (f : Vec F S64x512 .f32) : ((tB).view.loc (thr d L) ↦{fullShare} f : sProp 𝕄)
    ⊢ iprop(((tB).view.loc (thr d L) ↦[half 0]{fullShare} f) ∗ ((tB).view.loc (thr d L) ↦[half 1]{fullShare} f)) := by
  refine BIBase.Entails.trans (Entails.of_eq ?_) (pointsTo_union half_disj).1
  rw [half_union]

/-- and its two halves are it again. -/
theorem join_t (f g : Vec F S64x512 .f32) : iprop(((tB).view.loc (thr d L) ↦[half 0]{fullShare} f) ∗ ((tB).view.loc (thr d L) ↦[half 1]{fullShare} g))
    ⊢ (iprop(∃ h : Vec F S64x512 .f32, (tB).view.loc (thr d L) ↦{fullShare} h) : sProp 𝕄) := by
  refine BIBase.Entails.trans (pointsTo_join half_disj) ?_
  rw [half_union]
  iintro H
  iexists _; iexact H

/-! ## Shares -/

/-- A points-to is the points-tos at the shares it is dealt into. -/
theorem deal_fin {ℓ : Loc nD τ sig} {S : Finset (Idx ℓ)} {f : Buf (Elt F) ℓ} (q : PosShare TreeShare) (n : ℕ) (hn : 0 < n) :
    (ℓ ↦[S]{q} f : sProp 𝕄) = bigSep Finset.univ fun i : Fin n => ℓ ↦[S]{Transfers.dealShare q n i.val} f := by
  haveI : NeZero n := ⟨hn.ne'⟩
  rw [Transfers.pointsTo_deal (Finset.univ : Finset (Fin n)) ⟨0, Finset.mem_univ _⟩ q]
  refine bigSep_congr fun i _ => ?_
  unfold Transfers.dealOf
  rw [show (Finset.univ.filter (· < i) : Finset (Fin n)) = Finset.Iio i by ext; simp, Fin.card_Iio, Finset.card_univ, Fintype.card_fin]

/-- Two shares. -/
theorem deal_two {ℓ : Loc nD τ sig} {S : Finset (Idx ℓ)} {f : Buf (Elt F) ℓ} (q : PosShare TreeShare) :
    (ℓ ↦[S]{q} f : sProp 𝕄) = iprop((ℓ ↦[S]{Transfers.dealShare q 2 0} f) ∗ (ℓ ↦[S]{Transfers.dealShare q 2 1} f)) := by
  rw [deal_fin q 2 (by omega), show (Finset.univ : Finset (Fin 2)) = {0, 1} by decide, SparseCore.bigSep_insert' (by decide), bigSep_singleton]
  rfl

/-! ## The task -/

variable (P T : Vec F S16x1x512x512 .f32)

/-- What a tile is handed and hands back: both images to read by the share `s`, its rows of the result at `f`. -/
def Hand (s : PosShare TreeShare) (f : Vec F S32x2x512 .f32) : sProp 𝕄 :=
  iprop(((pW).view.loc (thr d L) ↦{s} P) ∗ ((tW).view.loc (thr d L) ↦{s} T) ∗ ((oW).view.loc (thr d L) ↦[outRow L]{fullShare} f))

/-- The task on a tile. -/
theorem task (hF : (K (F := F)).Facts) (hT : AllIn T) (O : CellTallies nD τ sig (HIx 1)) (W : Waits sig (HIx 1)) (hO : ∀ g, O g none = 0)
    (s : PosShare TreeShare) (fo : Vec F S32x2x512 .f32) :
    iprop(levAts (K (F := F)).L (K (F := F)).lev ∗ emp ∗ Hand d L P T s fo ∗ scopedBufs (thr d L) ∗ scopedSems0 (thr d L) ∗ owes (thr d L) O W)
    ⊢ WP (cc0__hist_body (F := F) L (pW) (Memref.isWhole_whole _) (tW) (Memref.isWhole_whole _) (oW) (Memref.isWhole_whole _)
        (pB) (Memref.isWhole_whole _) (tB) (Memref.isWhole_whole _) (cB) (Memref.isWhole_whole _) (sB) (Memref.isWhole_whole _)
        cc0_scratch4 cc0_scratch5 cc0_scratch6 cc0_scratch7 cc0_scoped0 cc0_scoped1)
      fun _ => iprop(Hand d L P T s (outV P T) ∗ scopedBufs (thr d L) ∗ scopedSems0 (thr d L)
        ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), own_sems, own_bufs]
  unfold Hand
  have eP : ((pW).view.loc (thr d L) ↦{s} P : sProp 𝕄) = iprop(((pW).view.loc (thr d L) ↦{Transfers.dealShare s 2 0} P) ∗ ((pW).view.loc (thr d L) ↦{Transfers.dealShare s 2 1} P)) := deal_two s
  have eT : ((tW).view.loc (thr d L) ↦{s} T : sProp 𝕄) = iprop(((tW).view.loc (thr d L) ↦{Transfers.dealShare s 2 0} T) ∗ ((tW).view.loc (thr d L) ↦{Transfers.dealShare s 2 1} T)) := deal_two s
  rw [eP, eT]
  iintro ⟨#Hlv, -, ⟨⟨Hp0, Hp1⟩, ⟨Ht0, Ht1⟩, Hout⟩, ⟨⟨%fp, HB0⟩, ⟨%ft, HB1⟩, ⟨%fc, HB2⟩, ⟨%fs, HB3⟩, Hbufs⟩, ⟨Hv0, Hv1, Hv2, Hv3, Hv4, Hv5, Hsems⟩, HO⟩
  ihave Hmw := ((K (F := F)).mayWaits_none (thr := thr d L) hO) $$ Hlv
  ihave Hps := (split_p d L fp) $$ HB0
  ihave Hts := (split_t d L ft) $$ HB1
  icases Hps with ⟨HpA, HpB⟩
  icases Hts with ⟨HtA, HtB⟩
  iapply (wp_wand_r frame _ _)
  isplitr [Hbufs Hsems]
  · iapply (body d L (Transfers.dealShare s 2) P T hT O W fo)
    unfold owesW Free Scr
    isplitl [Hmw HO]
    · isplitl [Hmw]; · iexact Hmw
      iexists W
      isplitr
      · ipureintro; exact fun p hp => .inl hp
      · iexact HO
    isplitl [HpA HtA Hp0 Ht0 Hv0 Hv2]
    · iexists fp, ft
      isplitl [HpA]; · iexact HpA
      isplitl [HtA]; · iexact HtA
      isplitl [Hp0]; · iexact Hp0
      isplitl [Ht0]; · iexact Ht0
      isplitl [Hv0]; · iexact Hv0
      iexact Hv2
    isplitl [HpB HtB Hp1 Ht1 Hv1 Hv3]
    · iexists fp, ft
      isplitl [HpB]; · iexact HpB
      isplitl [HtB]; · iexact HtB
      isplitl [Hp1]; · iexact Hp1
      isplitl [Ht1]; · iexact Ht1
      isplitl [Hv1]; · iexact Hv1
      iexact Hv3
    isplitl [HB2 HB3]
    · isplitl [HB2]
      · iexists fc; iexact HB2
      · iexists fs; iexact HB3
    isplitl [Hout]; · iexact Hout
    isplitl [Hv4]; · iexact Hv4
    iexact Hv5
  · unfold owesW Free Scr
    iintro %_ ⟨⟨-, HO⟩, ⟨%fp, %ft, HpA, HtA, Hp0, Ht0, Hv0, Hv2⟩, ⟨%gp, %gt, HpB, HtB, Hp1, Ht1, Hv1, Hv3⟩, ⟨HB2, HB3⟩, Hout, Hv4, Hv5⟩
    ihave HB0 := (join_p d L fp gp) $$ [HpA HpB]
    · isplitl [HpA] <;> iassumption
    ihave HB1 := (join_t d L ft gt) $$ [HtA HtB]
    · isplitl [HtA] <;> iassumption
    isplitl [Hp0 Hp1 Ht0 Ht1 Hout]
    · isplitl [Hp0 Hp1]
      · isplitl [Hp0]; · iexact Hp0
        iexact Hp1
      isplitl [Ht0 Ht1]
      · isplitl [Ht0]; · iexact Ht0
        iexact Ht1
      iexact Hout
    isplitl [HB0 HB1 HB2 HB3 Hbufs]
    · isplitl [HB0]; · iexact HB0
      isplitl [HB1]; · iexact HB1
      isplitl [HB2]; · iexact HB2
      isplitl [HB3]; · iexact HB3
      iexact Hbufs
    isplitl [Hv0 Hv1 Hv2 Hv3 Hv4 Hv5 Hsems]
    · isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      iexact Hsems
    iexact HO

end Cert.Proof.Hist
-- ==== Proof.Launch.lean ====
/-
  The launch: what the call hands the cores and the tiles and takes back, the TensorCore's program around it, and the
  run of the whole program.
-/
module

public import proofs.«01_k».proof.Proof.Tile
public import Idealize.ShloMosaic.Lib.Pipeline.Frame
@[expose] public section

noncomputable section

namespace Cert.Proof.Hist

open Idealize.ShloMosaic.StableHlo (held held_sub_split held_congr after)
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "pW" => (Memref.whole Cert.KernelIdeal.main_arg0_scv : Memref Cert.KernelIdeal.sig Kind.scVector Space.hbm Cert.KernelIdeal.S16x1x512x512 EltTy.f32)
local notation "tW" => (Memref.whole Cert.KernelIdeal.main_arg1_scv : Memref Cert.KernelIdeal.sig Kind.scVector Space.hbm Cert.KernelIdeal.S16x1x512x512 EltTy.f32)
local notation "oW" => (Memref.whole Cert.KernelIdeal.main_v0_scv : Memref Cert.KernelIdeal.sig Kind.scVector Space.hbm Cert.KernelIdeal.S32x2x512 EltTy.f32)
local notation "pB" => (Memref.whole Cert.KernelIdeal.cc0_scratch0 : Memref Cert.KernelIdeal.sig Kind.scVector Space.vmem Cert.KernelIdeal.S64x512 EltTy.f32)
local notation "tB" => (Memref.whole Cert.KernelIdeal.cc0_scratch1 : Memref Cert.KernelIdeal.sig Kind.scVector Space.vmem Cert.KernelIdeal.S64x512 EltTy.f32)
local notation "cB" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S512 EltTy.f32)

variable (m : (ℓ : Loc nD τ sig) → Buf (Elt F) ℓ) (ρ : Dev nD → PrngReg)

/-! ## What changes hands -/

/-- The predictions, the targets and the histograms' array, as places of device `d`. -/
abbrev pLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v19

/-- The share of the images core `c` reads by, and the share tile `i` of it reads by. -/
def coreS (c : ℕ) : PosShare TreeShare := Transfers.dealShare fullShare 2 c
def tileS (c i : ℕ) : PosShare TreeShare := Transfers.dealShare (coreS c) 16 i

/-- The rows of the result array tile `i` of core `c` writes. -/
def rowsOf (c i : ℕ) : Finset S32x2x512.Idx := Finset.univ.filter fun y => (y 0).val = 2 * i + c

/-- What the call leaves in the histograms' array. -/
def outF (d : Dev nD) : Vec F S32x2x512 .f32 := outV (m (pLoc d)) (m (tLoc d))

/-- A tile's part: both images to read, its rows at `f`. -/
def tileP (d : Dev nD) (c i : ℕ) (f : Vec F S32x2x512 .f32) : sProp 𝕄 :=
  iprop((pLoc d ↦{tileS c i} m (pLoc d)) ∗ (tLoc d ↦{tileS c i} m (tLoc d)) ∗ (oLoc d ↦[rowsOf c i]{fullShare} f))

/-- A core's part: both images to read, its tiles' rows at `f`. -/
def coreP (d : Dev nD) (c : ℕ) (f : Vec F S32x2x512 .f32) : sProp 𝕄 :=
  iprop((pLoc d ↦{coreS c} m (pLoc d)) ∗ (tLoc d ↦{coreS c} m (tLoc d)) ∗ bigSep Finset.univ fun i : Fin 16 => (oLoc d ↦[rowsOf c i.val]{fullShare} f))

instance tileP_storable (d : Dev nD) (c i : ℕ) (f : Vec F S32x2x512 .f32) : BI.Storable (upEmb : UEmb _ 𝕄) (tileP m d c i f) := by
  unfold tileP; infer_instance
instance coreP_storable (d : Dev nD) (c : ℕ) (f : Vec F S32x2x512 .f32) : BI.Storable (upEmb : UEmb _ 𝕄) (coreP m d c f) := by
  unfold coreP; infer_instance

/-- The call's payloads: the result array as the launch has it on the way in, at the histograms on the way out. -/
def Py : (K (F := F)).Pay (nD := nD) (Val := Elt F) (Name := ℕ) (U := UU) where
  st := fun _ d c => coreP m d c.val (m (oLoc d))
  dn := fun _ d c => coreP m d c.val (outF m d)
  go := fun _ d c i => tileP m d c.val i.val (m (oLoc d))
  td := fun _ d c i => tileP m d c.val i.val (outF m d)
  x := fun _ _ => iprop(emp)

instance Py_storable : (Py (F := F) m).IsStorable where
  st _ d c := by unfold Py; infer_instance
  dn _ d c := by unfold Py; infer_instance
  go _ _ _ _ := by unfold Py; infer_instance
  td _ _ _ _ := by unfold Py; infer_instance

/-! ## The tiles' obligation -/

/-- A tile's coordinates from its core and its number. -/
def coordsV (c : Fin (grid0.bound 0)) (s : Fin (grid0.bound 1)) : grid0.Coords :=
  fun | 0 => c | 1 => s | ⟨_ + 2, h⟩ => absurd h (Nat.not_lt.2 (Nat.le_add_left _ _))

/-- The program a tile runs. -/
theorem defs₀_vector (c : Fin τ.nSC) (s : Fin τ.nSub) :
    defs₀ (F := F) (.scVector c s) 0 ()
      = SparseCore.onTile hcore0 hsub0 (fun c s => cc0__hist_body (F := F) (coordsV c s)
          (pW) (Memref.isWhole_whole _) (tW) (Memref.isWhole_whole _) (oW) (Memref.isWhole_whole _)
          (pB) (Memref.isWhole_whole _) (tB) (Memref.isWhole_whole _) (cB) (Memref.isWhole_whole _) (sB) (Memref.isWhole_whole _)
          cc0_scratch4 cc0_scratch5 cc0_scratch6 cc0_scratch7 cc0_scoped0 cc0_scoped1) ⟨⟩ c s := rfl

/-- A task's end as the launch reads it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

-- the closing step matches the obligation with the task's statement, whose program is long
set_option maxRecDepth 2048 in
/-- Every tile runs its task. -/
theorem tileObl (hT : ∀ d, AllIn (m (tLoc d))) : (K (F := F)).TileObl (D (F := F)) 𝒱 (Py m) v₀ 0 := by
  intro d c i O W hO _ _
  simp only [show (Py m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task d (coordsV ⟨_, hc.1⟩ ⟨_, hc.2⟩) (m (pLoc d)) (m (tLoc d)) scFacts (hT d) O W hO (tileS c.val i.val) (m (oLoc d))).trans
    (wp_mono frame _ _ fun _ => obl_post)

/-! ## A core's part dealt to its tiles -/

omit [FloatOps F] in
/-- A core's tiles are sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's part is its tiles' parts. -/
theorem core_tiles (d : Dev nD) (c : ℕ) (f : Vec F S32x2x512 .f32) :
    (coreP m d c f : sProp 𝕄) = bigSep Finset.univ fun i : Fin 16 => tileP m d c i.val f := by
  unfold coreP tileP tileS
  rw [bigSep_sep', bigSep_sep', ← deal_fin (coreS c) 16 (by omega), ← deal_fin (coreS c) 16 (by omega)]

/-- The core deals its part out and takes it back. -/
theorem vecSplit : (K (F := F)).VecSplit' (Py m) 0 := by
  intro d c
  show coreP m d c.val (m (oLoc d)) ⊢ |={Set.univ}=> iprop(
      (bigSep Finset.univ fun i : Fin ((K (F := F)).nSub 0) => tileP m d c.val (Fin.cast nSub_zero i).val (m (oLoc d)))
      ∗ ((bigSep Finset.univ fun i : Fin ((K (F := F)).nSub 0) => tileP m d c.val (Fin.cast nSub_zero i).val (outF m d))
          -∗ coreP m d c.val (outF m d)))
  rw [bigSep_tasks (F := F) (fun i => tileP m d c.val i.val (m (oLoc d))), bigSep_tasks (F := F) (fun i => tileP m d c.val i.val (outF m d)),
    core_tiles, core_tiles]
  iintro H; imodintro
  isplitl [H]; · iexact H
  iintro H
  iexact H

/-! ## The launch's ghost state -/

/-- The handshakes' rounds; nothing of the kernel's own. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Py m).x q thr) := by
  unfold u₀
  iintro Hu
  ihave H := (ownU_pair _ _) $$ Hu
  icases H with ⟨HH, -⟩
  imodintro
  isplitl [HH]; · iexact HH
  isplitr; · rw [bigSep_emp']; iempintro
  unfold Py; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's program -/

/-- The operations after the call, in order. -/
abbrev hostOps : List (HloOp τ sig (Elt F)) :=
  [ StableHlo.nullary main_cst (constant S_ .f32 0x00000000#32),
    StableHlo.binary main_v0 main_cst main_v1 ((fun x v => Host.reduceAdd x v reducesTo_S32x2x512_S2x512_d0 h_S_) : (⟨S32x2x512, .f32⟩ : BufTy).Contents (Elt F) → (⟨S_, .f32⟩ : BufTy).Contents (Elt F) → (⟨S2x512, .f32⟩ : BufTy).Contents (Elt F)),
    StableHlo.reshape main_v1 main_v2 (rfl : (.f32 : EltTy) = .f32) shapeCasts_S2x512_S2x32x16,
    StableHlo.nullary main_cst_0 (constant S_ .f32 0x00000000#32),
    StableHlo.binary main_v2 main_cst_0 main_v3 ((fun x v => Host.reduceAdd x v reducesTo_S2x32x16_S2x32_d2 h_S_) : (⟨S2x32x16, .f32⟩ : BufTy).Contents (Elt F) → (⟨S_, .f32⟩ : BufTy).Contents (Elt F) → (⟨S2x32, .f32⟩ : BufTy).Contents (Elt F)),
    StableHlo.unary main_v3 main_v4 ((extractStridedSlice S1x31 ![0, 0] · slices_S2x32_S1x31_0_0) : (⟨S2x32, .f32⟩ : BufTy).Contents (Elt F) → (⟨S1x31, .f32⟩ : BufTy).Contents (Elt F)),
    StableHlo.reshape main_v4 main_v5 (rfl : (.f32 : EltTy) = .f32) shapeCasts_S1x31_S31,
    StableHlo.unary main_v3 main_v6 ((extractStridedSlice S1x31 ![1, 0] · slices_S2x32_S1x31_1_0) : (⟨S2x32, .f32⟩ : BufTy).Contents (Elt F) → (⟨S1x31, .f32⟩ : BufTy).Contents (Elt F)),
    StableHlo.reshape main_v6 main_v7 (rfl : (.f32 : EltTy) = .f32) shapeCasts_S1x31_S31,
    StableHlo.nullary main_cst_1 (constant S_ .f32 0x00000000#32),
    StableHlo.binary main_v5 main_cst_1 main_v8 ((fun x v => Host.reduceAdd x v reducesTo_S31_S_d0 h_S_) : (⟨S31, .f32⟩ : BufTy).Contents (Elt F) → (⟨S_, .f32⟩ : BufTy).Contents (Elt F) → (⟨S_, .f32⟩ : BufTy).Contents (Elt F)),
    StableHlo.unary main_v8 main_v9 (broadcastInDim S31 ![] bcast_S_S31 : (⟨S_, .f32⟩ : BufTy).Contents (Elt F) → (⟨S31, .f32⟩ : BufTy).Contents (Elt F)),
    StableHlo.binary main_v5 main_v9 main_v10 (Host.divf : (⟨S31, .f32⟩ : BufTy).Contents (Elt F) → (⟨S31, .f32⟩ : BufTy).Contents (Elt F) → (⟨S31, .f32⟩ : BufTy).Contents (Elt F)),
    StableHlo.nullary main_cst_2 (constant S_ .f32 0x3F000000#32),
    StableHlo.unary main_cst_2 main_v11 (broadcastInDim S31 ![] bcast_S_S31 : (⟨S_, .f32⟩ : BufTy).Contents (Elt F) → (⟨S31, .f32⟩ : BufTy).Contents (Elt F)),
    StableHlo.binary main_v10 main_v11 main_v12 (Host.powf : (⟨S31, .f32⟩ : BufTy).Contents (Elt F) → (⟨S31, .f32⟩ : BufTy).Contents (Elt F) → (⟨S31, .f32⟩ : BufTy).Contents (Elt F)),
    StableHlo.nullary main_cst_3 (constant S_ .f32 0x358637BD#32),
    StableHlo.unary main_cst_3 main_v13 (broadcastInDim S31 ![] bcast_S_S31 : (⟨S_, .f32⟩ : BufTy).Contents (Elt F) → (⟨S31, .f32⟩ : BufTy).Contents (Elt F)),
    StableHlo.binary main_v12 main_v13 main_v14 (addf : (⟨S31, .f32⟩ : BufTy).Contents (Elt F) → (⟨S31, .f32⟩ : BufTy).Contents (Elt F) → (⟨S31, .f32⟩ : BufTy).Contents (Elt F)),
    StableHlo.nullary main_cst_4 (constant S_ .f32 0x3F800000#32),
    StableHlo.unary main_cst_4 main_v15 (broadcastInDim S31 ![] bcast_S_S31 : (⟨S_, .f32⟩ : BufTy).Contents (Elt F) → (⟨S31, .f32⟩ : BufTy).Contents (Elt F)),
    StableHlo.binary main_v15 main_v14 main_v16 (Host.divf : (⟨S31, .f32⟩ : BufTy).Contents (Elt F) → (⟨S31, .f32⟩ : BufTy).Contents (Elt F) → (⟨S31, .f32⟩ : BufTy).Contents (Elt F)),
    StableHlo.binary main_v16 main_v7 main_v17 (mulf : (⟨S31, .f32⟩ : BufTy).Contents (Elt F) → (⟨S31, .f32⟩ : BufTy).Contents (Elt F) → (⟨S31, .f32⟩ : BufTy).Contents (Elt F)),
    StableHlo.nullary main_cst_5 (constant S_ .f32 0x00000000#32),
    StableHlo.binary main_v17 main_cst_5 main_v18 ((fun x v => Host.reduceAdd x v reducesTo_S31_S_d0 h_S_) : (⟨S31, .f32⟩ : BufTy).Contents (Elt F) → (⟨S_, .f32⟩ : BufTy).Contents (Elt F) → (⟨S_, .f32⟩ : BufTy).Contents (Elt F)),
    StableHlo.binary main_v18 main_v8 main_v19 (Host.divf : (⟨S_, .f32⟩ : BufTy).Contents (Elt F) → (⟨S_, .f32⟩ : BufTy).Contents (Elt F) → (⟨S_, .f32⟩ : BufTy).Contents (Elt F)) ]

-- the host operations after the call nest one inside another
set_option maxRecDepth 8192 in
/-- The program is the call and then the operations. -/
theorem main_eq (d : Dev nD) : main (F := F) d = (sc.run d 0 >>= fun _ => StableHlo.seq hostOps) := by
  unfold main
  exact congrArg (fun k => (sc (F := F)).run d 0 >>= k) (funext fun _ => rfl)

theorem hostOps_sub : (hostOps : List (HloOp τ sig (Elt F))).Forall fun op => op.bufs ⊆ StableHlo.tcRefs τ sig :=
  ⟨StableHlo.nullary_bufs_sub .., StableHlo.binary_bufs_sub .., StableHlo.reshape_bufs_sub .., StableHlo.nullary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.binary_bufs_sub ..⟩

theorem hostOps_fresh : (hostOps : List (HloOp τ sig (Elt F))).Forall fun op => op.fresh = ∅ := StableHlo.forall_fresh_of_map rfl

abbrev p' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev r' : DevRef τ sig := Proc.devRef .tc (main_v19 : Ref sig .tc)

/-- The arrays at the launch, and after the call. -/
def V0 (d : Dev nD) : Valuation τ sig (Elt F) := fun b => m (d, b)
def V1 (d : Dev nD) : Valuation τ sig (Elt F) := Function.update (V0 m d) o' (outF m d)

/-- The program's result. -/
def resF (d : Dev nD) : Buf (Elt F) (rLoc d) := after hostOps (V1 m d) r'

/-- The whole array is the tiles' rows. -/
theorem out_rows (d : Dev nD) (f : Vec F S32x2x512 .f32) :
    (oLoc d ↦{fullShare} f : sProp 𝕄) = bigSep Finset.univ fun c : Fin 2 => bigSep Finset.univ fun i : Fin 16 => (oLoc d ↦[rowsOf c.val i.val]{fullShare} f) := by
  have hd : ∀ c c' i i' : ℕ, c < 2 → c' < 2 → (c ≠ c' ∨ i ≠ i') → Disjoint (rowsOf c i) (rowsOf c' i') := fun c c' i i' h h' hn =>
    Finset.disjoint_left.mpr fun y hy hy' => by
      have e := (Finset.mem_filter.mp hy).2
      have e' := (Finset.mem_filter.mp hy').2
      omega
  have e1 : ∀ c : Fin 2, (bigSep Finset.univ fun i : Fin 16 => (oLoc d ↦[rowsOf c.val i.val]{fullShare} f : sProp 𝕄))
      = (oLoc d ↦[(Finset.univ : Finset (Fin 16)).biUnion fun i => rowsOf c.val i.val]{fullShare} f) := fun c =>
    (pointsTo_biUnion Finset.univ (ℓ := oLoc d) (fun i : Fin 16 => rowsOf c.val i.val)
      (fun i _ i' _ h => hd _ _ _ _ c.isLt c.isLt (Or.inr fun e => h (Fin.ext e)))).symm
  rw [bigSep_congr fun c _ => e1 c, ← pointsTo_biUnion Finset.univ (ℓ := oLoc d) (fun c : Fin 2 => (Finset.univ : Finset (Fin 16)).biUnion fun i => rowsOf c.val i.val)
    (fun c _ c' _ h => by
      refine Finset.disjoint_left.mpr fun y hy hy' => ?_
      obtain ⟨i, -, hi⟩ := Finset.mem_biUnion.mp hy
      obtain ⟨i', -, hi'⟩ := Finset.mem_biUnion.mp hy'
      exact Finset.disjoint_left.mp (hd c.val c'.val i.val i'.val c.isLt c'.isLt (Or.inl fun e => h (Fin.ext e))) hi hi')]
  refine congrArg (fun I => (oLoc d ↦[I]{fullShare} f : sProp 𝕄)) (Eq.symm (Finset.eq_univ_iff_forall.mpr fun y => ?_))
  have hy : (y 0).val < 32 := (y 0).isLt
  refine Finset.mem_biUnion.mpr ⟨⟨(y 0).val % 2, by omega⟩, Finset.mem_univ _, Finset.mem_biUnion.mpr ⟨⟨(y 0).val / 2, by omega⟩, Finset.mem_univ _, ?_⟩⟩
  exact Finset.mem_filter.mpr ⟨Finset.mem_univ _, show (y 0).val = 2 * ((y 0).val / 2) + (y 0).val % 2 by omega⟩

/-- The cores' parts are the three arrays. -/
theorem cores (d : Dev nD) (f : Vec F S32x2x512 .f32) :
    (bigSep Finset.univ fun c : Fin ((K (F := F)).nCore 0) => coreP m d c.val f)
      = (iprop((pLoc d ↦{fullShare} m (pLoc d)) ∗ (tLoc d ↦{fullShare} m (tLoc d)) ∗ (oLoc d ↦{fullShare} f)) : sProp 𝕄) := by
  show (bigSep (Finset.univ : Finset (Fin 2)) fun c => coreP m d c.val f) = _
  unfold coreP coreS
  rw [bigSep_sep', bigSep_sep', ← deal_fin fullShare 2 (by omega), ← deal_fin fullShare 2 (by omega), out_rows]

/-- Three arrays held are three points-tos. -/
theorem held_three (d : Dev nD) (x y z : DevRef τ sig) (hxy : x ∉ ({y, z} : Finset (DevRef τ sig))) (hyz : y ∉ ({z} : Finset (DevRef τ sig))) (W : Valuation τ sig (Elt F)) :
    (held (SparseCore.T d) {x, y, z} W : sProp 𝕄) = iprop(((d, x) ↦{fullShare} W x) ∗ ((d, y) ↦{fullShare} W y) ∗ ((d, z) ↦{fullShare} W z)) := by
  unfold held
  rw [SparseCore.bigSep_insert' hxy, SparseCore.bigSep_insert' hyz, bigSep_singleton]

theorem V1_p (d : Dev nD) : V1 m d p' = m (pLoc d) := Function.update_of_ne (show p' ≠ o' by decide) _ _
theorem V1_t (d : Dev nD) : V1 m d t' = m (tLoc d) := Function.update_of_ne (show t' ≠ o' by decide) _ _
theorem V1_o (d : Dev nD) : V1 m d o' = outF m d := Function.update_self _ _ _

/-- The operations leave both images. -/
theorem after_p (d : Dev nD) : after hostOps (V1 m d) p' = m (pLoc d) := by
  rw [← V1_p m]; unfold hostOps; after_results_simp
theorem after_t (d : Dev nD) : after hostOps (V1 m d) t' = m (tLoc d) := by
  rw [← V1_t m]; unfold hostOps; after_results_simp

/-- What the TensorCore ends with: both images and the result. -/
abbrev Fin' (d : Dev nD) : sProp 𝕄 :=
  iprop((pLoc d ↦{fullShare} m (pLoc d)) ∗ (tLoc d ↦{fullShare} m (tLoc d)) ∗ (rLoc d ↦{fullShare} resF m d))

theorem hmain (κ : GSem nD τ sig → ℕ) (d : Dev nD) :
    iprop((K (F := F)).ctx EH (Py m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Fin' m d ∗ (K (F := F)).tcEnd d) := by
  unfold SparseCore.Cfg.tcRes SparseCore.Cfg.tcEnd
  have eu : (unscopedBufs d (fun b => m ((SparseCore.T d).loc b)) : sProp 𝕄) = held (SparseCore.T d) (Pipeline.ucRefs τ sig) (V0 m d) :=
    Pipeline.unscopedBufs_held d (V0 m d)
  have h1 : ({p', t', o'} : Finset (DevRef τ sig)) ⊆ Pipeline.ucRefs τ sig := by decide
  have h2 : ({p', t', r'} : Finset (DevRef τ sig)) ⊆ Pipeline.ucRefs τ sig := by decide
  have er : (held (SparseCore.T d) (Pipeline.ucRefs τ sig \ {p', t', o'}) (V0 m d) : sProp 𝕄)
      = held (SparseCore.T d) (Pipeline.ucRefs τ sig \ {p', t', o'}) (V1 m d) :=
    held_congr _ fun b hb => (Function.update_of_ne (fun e => (Finset.mem_sdiff.mp hb).2 (by rw [e]; decide)) _ _).symm
  rw [eu, held_sub_split _ h1, er, held_three d p' t' o' (by decide) (by decide), main_eq, wp_bind, ← bind_pure_unit (x := StableHlo.seq hostOps)]
  iintro ⟨#Hctx, Hst, ⟨Hb, ⟨⟨Hp, Ht, Ho⟩, Hrest⟩, Hts, -⟩, -⟩
  iapply ((K (F := F)).wp_run (D (F := F)) 𝒱 (EH := EH) (P := Py m) κ d 0) $$ [Hst Hp Ht Ho Hrest Hb Hts]
  isplitr; · iexact Hctx
  isplitl [Hst]; · iexact Hst
  isplitl [Hp Ht Ho]
  · iapply (Entails.of_eq (cores m d (m (oLoc d))).symm)
    isplitl [Hp]; · iexact Hp
    isplitl [Ht]; · iexact Ht
    iexact Ho
  have ed : (bigSep Finset.univ fun c : Fin ((K (F := F)).nCore 0) => (Py m).dn 0 d c) = (bigSep Finset.univ fun c : Fin ((K (F := F)).nCore 0) => coreP m d c.val (outF m d) : sProp 𝕄) := rfl
  rw [ed]
  iintro ⟨Hst, Hdn⟩
  ihave Hdn' := (Entails.of_eq (cores m d (outF m d))) $$ Hdn
  icases Hdn' with ⟨Hp, Ht, Ho⟩
  iapply (StableHlo.wp_seq 𝒱 none Set.univ d (Pipeline.ucRefs τ sig) _ hostOps
    (fun op h => Pipeline.sub_ucRefs op (List.forall_iff_forall_mem.mp hostOps_sub op h))
    (fun op h => List.forall_iff_forall_mem.mp hostOps_fresh op h) (V1 m d)) $$ [Hb Hp Ht Ho Hrest]
  · isplitl [Hb]; · iexact Hb
    iapply (Entails.of_eq (held_sub_split _ h1 (V1 m d)).symm)
    isplitl [Hp Ht Ho]
    · iapply (Entails.of_eq (held_three d p' t' o' (by decide) (by decide) (V1 m d)).symm)
      rw [V1_p, V1_t, V1_o]
      isplitl [Hp]; · iexact Hp
      isplitl [Ht]; · iexact Ht
      iexact Ho
    · iexact Hrest
  iintro ⟨Hb, Hheld⟩
  ihave Hh := (Entails.of_eq ((held_sub_split _ h2 (after hostOps (V1 m d))).trans
    (congrArg (fun X => iprop(X ∗ held (SparseCore.T d) (Pipeline.ucRefs τ sig \ {p', t', r'}) (after hostOps (V1 m d)))) (held_three d p' t' r' (by decide) (by decide) (after hostOps (V1 m d)))))) $$ Hheld
  icases Hh with ⟨⟨Hp, Ht, Hr⟩, -⟩
  rw [after_p, after_t]
  rw [wp_pure]; imodintro
  isplitl [Hst]; · iexact Hst
  isplitr [Hb Hts]
  · isplitl [Hp]; · iexact Hp
    isplitl [Ht]; · iexact Ht
    iexact Hr
  isplitl [Hb] <;> iassumption

/-! ## The run -/

/-- What a final state shows of device `d`. -/
def fq (d : Dev nD) (s' : Phys nD τ sig (Elt F)) : Prop :=
  s'.mem.mem (pLoc d) = m (pLoc d) ∧ s'.mem.mem (tLoc d) = m (tLoc d) ∧ s'.mem.mem (rLoc d) = resF m d

theorem hfin (d : Dev nD) (s' : Phys nD τ sig (Elt F)) : iprop(Fin' m d ∗ SI s') ⊢ (⌜fq m d s'⌝ : sProp 𝕄) := by
  iintro ⟨⟨Hp, Ht, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := resF m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What the run ends with. -/
def QC : PUnit × MemSt nD τ sig (Elt F) → Prop := fun r =>
  (∀ c : Dev nD, r.2.mem (pLoc c) = m (pLoc c) ∧ r.2.mem (tLoc c) = m (tLoc c) ∧ r.2.mem (rLoc c) = resF m c) ∧ r.2.sem = fun _ => 0

/-- The run of the whole program: it ends, the images as they were, the result the operations' value of the histograms,
    every counter at zero. -/
theorem run_main [∀ e, Nonempty (Elt F e)] (hT : ∀ d, AllIn (m (tLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Py m) (A := ∅) scFacts v₀
    (fun q hq => match q with | 0 => nomatch hq)
    (fun q _ => match q with | 0 => tileObl m hT)
    (fun q _ => match q with | 0 => SparseCore.Cfg.VecSplit.of_plain (vecSplit m))
    m ρ main (fun _ => iprop(emp)) (Fin' m) (u₀ (F := F)) (sep_elim_left.trans (hu₀ m)) (hmain m ρ) (fq m) (hfin m) (QC m) (fun _ h hz => ⟨h, hz⟩)

end Cert.Proof.Hist
-- ==== Proof.Bins.lean ====
/-
  Pixels and bins at the exact instance: for a target that is not negative the reference's bin, the floor of
  `expm1` clipped to 0 … 30, is the kernel's, the integer part of `exp` capped at 31, less one.
-/
module

public import proofs.«01_k».proof.Proof.Spec
public import Idealize.ShloMosaic.Lib.Routing.OpsSearch
public import Idealize.ShloMosaic.Lib.Pipeline.Value
public import Idealize.ShloMosaic.PureOps.Ideal.Laws

@[expose] public section

noncomputable section

namespace Cert.Proof.Hist

open Cert.KernelIdeal Cert.KernelIdeal.Gen
open Idealize.ShloMosaic Idealize.ShloMosaic.ValueIdx

/-- The reference's bin of a target, as its word. -/
def binW (t : EReal) : BitVec 32 :=
  IntOp.minsi 30#32 (IntOp.maxsi 0#32 (Ideal.fptosi 32 (Ideal.liftRound Int.floor (Ideal.exp t - 1))))

/-- The bin of a target. -/
def bin (t : EReal) : ℕ := (binW t).toNat

/-- The lesser of two words that hold naturals. -/
theorem minsi_nat {a b : ℕ} (ha : a < 2 ^ 31) (hb : b < 2 ^ 31) : IntOp.minsi (BitVec.ofNat 32 a) (BitVec.ofNat 32 b) = BitVec.ofNat 32 (min a b) := by
  unfold IntOp.minsi
  rw [Routing.slt_ofNat32 ha hb]
  by_cases h : a < b
  · rw [if_pos (decide_eq_true h), min_eq_left (by omega)]
  · rw [if_neg (by simpa using h), min_eq_right (by omega)]

/-- A real that is not negative converts to the natural its integer part is, capped at the greatest word. -/
theorem fptosi_nat {x : ℝ} {n : ℕ} (hx : 0 ≤ x) (hn : ⌊x⌋ = (n : ℤ)) : Ideal.fptosi 32 (x : EReal) = BitVec.ofNat 32 (min n (2 ^ 31 - 1)) := by
  have h : Ideal.toIntClamped (-(2 ^ (32 - 1) : Nat)) ((2 ^ (32 - 1) : Nat) - 1) (x : EReal) = ((min n (2 ^ 31 - 1) : ℕ) : ℤ) := by
    show max _ (min _ (if 0 ≤ x then ⌊x⌋ else ⌈x⌉)) = _
    rw [if_pos hx, hn]
    push_cast
    omega
  unfold Ideal.fptosi
  rw [h, BitVec.ofInt_natCast]

/-- For a target that is not negative: its bin is below 31, the reference's word holds it, and the kernel's capped
    integer part of `exp` is one more. -/
theorem bin_spec {t : EReal} (ht : 0 ≤ t) : bin t < 31 ∧ binW t = BitVec.ofNat 32 (bin t)
    ∧ IntOp.minsi (Ideal.fptosi 32 (Ideal.exp t)) 31#32 = BitVec.ofNat 32 (bin t + 1) := by
  have key : ∃ k, k < 31 ∧ binW t = BitVec.ofNat 32 k ∧ IntOp.minsi (Ideal.fptosi 32 (Ideal.exp t)) 31#32 = BitVec.ofNat 32 (k + 1) := by
    induction t using EReal.rec with
    | bot => exact absurd ht (by simp)
    | top =>
      have e : Ideal.fptosi 32 (⊤ : EReal) = BitVec.ofNat 32 (2 ^ 31 - 1) := rfl
      refine ⟨30, by omega, ?_, ?_⟩
      · unfold binW
        rw [Ideal.exp_top, show (⊤ : EReal) - 1 = ⊤ from rfl, Ideal.liftRound_top, e]
        rfl
      · rw [Ideal.exp_top, e]; rfl
    | coe r =>
      have hr : (0 : ℝ) ≤ r := by exact_mod_cast ht
      have hx : (1 : ℝ) ≤ Real.exp r := Real.one_le_exp hr
      obtain ⟨n, hn⟩ : ∃ n : ℕ, ⌊Real.exp r⌋ = ((n + 1 : ℕ) : ℤ) := by
        have h1 : (1 : ℤ) ≤ ⌊Real.exp r⌋ := Int.le_floor.mpr (by exact_mod_cast hx)
        exact ⟨(⌊Real.exp r⌋ - 1).toNat, by omega⟩
      have hn' : ⌊((⌊Real.exp r - 1⌋ : ℤ) : ℝ)⌋ = (n : ℤ) := by
        rw [Int.floor_intCast, show Real.exp r - 1 = Real.exp r - ((1 : ℤ) : ℝ) by norm_num, Int.floor_sub_intCast, hn]; push_cast; omega
      have h0 : (0 : ℝ) ≤ ((⌊Real.exp r - 1⌋ : ℤ) : ℝ) := by
        exact_mod_cast Int.floor_nonneg.mpr (by linarith)
      refine ⟨min n 30, by omega, ?_, ?_⟩
      · unfold binW
        rw [Ideal.exp_coe, show ((Real.exp r : ℝ) : EReal) - 1 = ((Real.exp r - 1 : ℝ) : EReal) by push_cast; rfl, Ideal.liftRound_coe,
          fptosi_nat h0 hn', show (0#32) = BitVec.ofNat 32 0 from rfl, show (30#32) = BitVec.ofNat 32 30 from rfl,
          Routing.clip_word (by omega) (by omega) (by omega)]
        congr 1; omega
      · rw [Ideal.exp_coe, fptosi_nat (by linarith) hn, show (31#32) = BitVec.ofNat 32 31 from rfl, minsi_nat (by omega) (by omega)]
        congr 1; omega
  obtain ⟨k, hk, e1, e2⟩ := key
  have hb : bin t = k := by
    unfold bin
    rw [e1, BitVec.toNat_ofNat]
    exact Nat.mod_eq_of_lt (by omega)
  rw [hb]
  exact ⟨hk, e1, e2⟩

/-- A lane's offset: the lane, one bin below. -/
theorem laneOff_apply : ∀ l : Fin 16, laneOff (ix1 l) = BitVec.ofNat 32 l.val - 16#32 := by decide +kernel

/-- The cell of a lane whose target is not negative: its bin's sixteen, at the lane. -/
theorem cells_apply (t : Vec Ideal S16 .f32) (l : Fin 16) (ht : (0 : EReal) ≤ t (ix1 l)) : (cells (F := Ideal) t (ix1 l)).toNat = 16 * bin (t (ix1 l)) + l.val := by
  obtain ⟨hk, -, e⟩ := bin_spec ht
  have h : cells (F := Ideal) t (ix1 l) = IntOp.addi (IntOp.muli (IntOp.minsi (Ideal.fptosi 32 (Ideal.exp (t (ix1 l)))) 31#32) 16#32) (laneOff (ix1 l)) := rfl
  rw [h, e, laneOff_apply]
  have hl := l.isLt
  show (BitVec.ofNat 32 (bin (t (ix1 l)) + 1) * 16#32 + (BitVec.ofNat 32 l.val - 16#32)).toNat = _
  simp only [BitVec.toNat_add, BitVec.toNat_mul, BitVec.toNat_sub, BitVec.toNat_ofNat]
  omega

/-- A block's lane is the pixel that many columns on. -/
theorem blk_apply {F : FTy → Type} [FloatOps F] (A : Vec F S16x1x512x512 .f32) (c : Fin 2) (s : Fin 16) (row x : ℕ) (l : Fin 16) :
    blk A c s row x (ix1 l) = px A s (256 * c.val + row) (x + l.val) := by
  unfold blk
  refine (shapeCast_apply _ _ (ix1 l) (ix2 (0 : Fin 1) l) ?_).trans rfl
  refine (Shape.rowMajor_val_two (ix2 (0 : Fin 1) l)).trans ?_
  refine Eq.trans ?_ (Shape.rowMajor_val_one (ix1 l)).symm
  show 0 * 16 + l.val = l.val
  omega

/-- With no target negative every pixel goes to a cell of the histogram. -/
theorem allIn (T : Vec Ideal S16x1x512x512 .f32) (hT : ∀ y, (0 : EReal) ≤ T y) : AllIn (F := Ideal) T := by
  intro c s row x i
  obtain ⟨l, rfl⟩ : ∃ l : Fin 16, i = ix1 l := ⟨i 0, funext fun a => by obtain rfl : a = 0 := Subsingleton.elim _ _; rfl⟩
  have ht : (0 : EReal) ≤ blk (F := Ideal) T c s row x (ix1 l) := by rw [blk_apply]; exact hT _
  rw [cells_apply _ _ ht]
  have := (bin_spec ht).1
  have := l.isLt
  omega

end Cert.Proof.Hist
-- ==== Proof.Sums.lean ====
/-
  The tiles' histograms at the exact instance as sums: one cell of a histogram is the sum of the values whose pixel
  goes there, and the cells of one bin over all lanes and tiles are the sum over the image's pixels of that bin.
-/
module

public import proofs.«01_k».proof.Proof.Bins
public import Idealize.ShloMosaic.Lib.Pointwise.Index
public import Idealize.ShloMosaic.Lib.IdealHost

@[expose] public section

noncomputable section

namespace Cert.Proof.Hist

open Cert.KernelIdeal Cert.KernelIdeal.Gen
open Idealize.ShloMosaic hiding ix0 ix1 ix2 ix3 ix4 ix5 eq_ix1 eq_ix2 eq_ix3 eq_ix4 sum_idx2
open Idealize.ShloMosaic.ValueIdx

/-- A fold whose steps each add to what stands at `j` adds the sum of what they add. -/
theorem fold_apply {K X : Type} (step : (X → EReal) → K → X → EReal) (j : X) (a : K → EReal) (h : ∀ g k, step g k j = g j + a k) (L : List K) (g : X → EReal) :
    L.foldl step g j = g j + (L.map a).sum := by
  induction L generalizing g with
  | nil => simp
  | cons k L ih => rw [List.foldl_cons, ih, h, List.map_cons, List.sum_cons, add_assoc]

/-- One scatter-add read at a cell: what the cell held and the values of the lanes that go there. -/
theorem scat_apply (f : Vec Ideal S512 .f32) (ix : IVec S16 32) (v : Vec Ideal S16 .f32) (h : InRange ix) (j : Fin 512) :
    (scat (F := Ideal) f ix v (ix1 j) : EReal) = (f (ix1 j) : EReal) + ∑ l : Fin 16, if (ix (ix1 l)).toNat = j.val then (v (ix1 l) : EReal) else 0 := by
  unfold scat
  rw [dif_pos h, Fin.sum_univ_def]
  refine fold_apply (K := Fin 16) (X := S512.Idx) _ (ix1 j) (fun l => if (ix (ix1 l)).toNat = j.val then (v (ix1 l) : EReal) else 0) (fun g k => ?_) (List.finRange 16) f
  have ek : (Shape.ofLane k : S16.Idx) = ix1 k := funext fun a => by obtain rfl : a = 0 := Subsingleton.elim _ _; rfl
  have ei : ∀ a : Fin 1, ((idxAt (s := S512) ![ix] h.inb (Shape.ofLane k : S16.Idx)) a).val = (ix (ix1 k)).toNat := fun a => by
    rw [ek]; obtain rfl : a = 0 := Subsingleton.elim _ _; rfl
  have e0 : (v (Shape.ofLane k : S16.Idx) : EReal) = v (ix1 k) := congrArg v ek
  refine (congrFun (if_pos (rfl : (1#1 : BitVec 1) = 1)) (ix1 j)).trans ?_
  by_cases hj : (ix (ix1 k)).toNat = j.val
  · have e2 : idxAt (s := S512) ![ix] h.inb (Shape.ofLane k : S16.Idx) = ix1 j := funext fun a => by
      obtain rfl : a = 0 := Subsingleton.elim _ _
      exact Fin.ext ((ei 0).trans hj)
    refine (if_pos (fun a => (congrArg (fun y : S512.Idx => (y a).val) e2).symm)).trans ?_
    show (g (idxAt (s := S512) ![ix] h.inb (Shape.ofLane k : S16.Idx)) + (v (Shape.ofLane k : S16.Idx) : EReal) : EReal) = _
    rw [e2, if_pos hj, e0]
  · refine (if_neg (fun hh => hj ((ei 0).symm.trans (hh 0).symm))).trans ?_
    rw [if_neg hj, add_zero]

/-- The ones are ones, the zero zero. -/
theorem ones_apply (x : S16.Idx) : (ones (F := Ideal) x : EReal) = 1 := Ideal.ofBits_one_f32
theorem zero_apply (x : S16.Idx) : (k0_pay191 (F := Ideal) x : EReal) = 0 := Ideal.ofBits_zero_f32

/-- A histogram carried through part of a row, at a cell. -/
theorem partH_apply (T : Vec Ideal S16x1x512x512 .f32) (hT : AllIn (F := Ideal) T) (c : Fin 2) (s : Fin 16) (v : ℕ → ℕ → Vec Ideal S16 .f32) (row : ℕ)
    (f : Vec Ideal S512 .f32) (j : Fin 512) (n : ℕ) :
    (partH (F := Ideal) T c s v row f n (ix1 j) : EReal) = (f (ix1 j) : EReal)
      + ∑ u ∈ Finset.range n, ∑ l : Fin 16, if (cells (F := Ideal) (blk (F := Ideal) T c s row (16 * u)) (ix1 l)).toNat = j.val then (v row (16 * u) (ix1 l) : EReal) else 0 := by
  induction n with
  | zero => simp [partH]
  | succ n ih =>
    rw [Finset.sum_range_succ, ← add_assoc, ← ih]
    exact scat_apply _ _ _ (hT c s row (16 * n)) j

/-- A histogram after `n` rows, at a cell. -/
theorem hist_apply (T : Vec Ideal S16x1x512x512 .f32) (hT : AllIn (F := Ideal) T) (c : Fin 2) (s : Fin 16) (v : ℕ → ℕ → Vec Ideal S16 .f32)
    (j : Fin 512) (n : ℕ) :
    (hist (F := Ideal) T c s v n (ix1 j) : EReal)
      = ∑ row ∈ Finset.range n, ∑ u ∈ Finset.range 32, ∑ l : Fin 16, if (cells (F := Ideal) (blk (F := Ideal) T c s row (16 * u)) (ix1 l)).toNat = j.val then (v row (16 * u) (ix1 l) : EReal) else 0 := by
  induction n with
  | zero => simp only [Finset.range_zero, Finset.sum_empty]; exact zero_apply (ix1 (0 : Fin 16))
  | succ n ih =>
    rw [Finset.sum_range_succ, ← ih]
    exact partH_apply T hT c s v n _ j 32

/-- The pixel at a place of a tile's walk. -/
def pix (c : Fin 2) (s : Fin 16) (row x : ℕ) : S16x1x512x512.Idx :=
  ix4 s (0 : Fin 1) (Fin.ofNat 512 (256 * c.val + row)) (Fin.ofNat 512 x)

/-- The sum over a tile's pixels of what falls in bin `k`, taken over the bin's lanes. -/
theorem lanes_sum (T : Vec Ideal S16x1x512x512 .f32) (hT : ∀ y, (0 : EReal) ≤ T y) (c : Fin 2) (s : Fin 16) (v : ℕ → ℕ → Vec Ideal S16 .f32)
    (g : S16x1x512x512.Idx → EReal) (hv : ∀ row u (l : Fin 16), (v row (16 * u) (ix1 l) : EReal) = g (pix c s row (16 * u + l.val))) (k : ℕ) (hk : k < 32) :
    (∑ l' : Fin 16, (hist (F := Ideal) T c s v 256 (ix1 ⟨16 * k + l'.val, by have := l'.isLt; omega⟩) : EReal))
      = ∑ row ∈ Finset.range 256, ∑ u ∈ Finset.range 32, ∑ l : Fin 16,
          if bin (T (pix c s row (16 * u + l.val))) = k then g (pix c s row (16 * u + l.val)) else 0 := by
  simp only [hist_apply T (allIn T hT)]
  rw [Finset.sum_comm]
  refine Finset.sum_congr rfl fun row _ => ?_
  rw [Finset.sum_comm]
  refine Finset.sum_congr rfl fun u _ => ?_
  rw [Finset.sum_comm]
  refine Finset.sum_congr rfl fun l _ => ?_
  have e : blk (F := Ideal) T c s row (16 * u) (ix1 l) = T (pix c s row (16 * u + l.val)) := blk_apply T c s row (16 * u) l
  have e2 : (cells (F := Ideal) (blk (F := Ideal) T c s row (16 * u)) (ix1 l)).toNat = 16 * bin (T (pix c s row (16 * u + l.val))) + l.val := by
    rw [cells_apply _ l (by rw [e]; exact hT _), e]
  simp only [e2, hv]
  by_cases h : bin (T (pix c s row (16 * u + l.val))) = k
  · rw [if_pos h, h]
    rw [Finset.sum_eq_single l]
    · rw [if_pos rfl]
    · intro l' _ hl'
      exact if_neg fun hh => hl' (Fin.ext (by simpa using hh.symm))
    · intro hh; exact absurd (Finset.mem_univ _) hh
  · rw [if_neg h]
    refine Finset.sum_eq_zero fun l' _ => if_neg fun hh => h ?_
    have := l.isLt; have := l'.isLt
    have hh' : 16 * bin (T (pix c s row (16 * u + l.val))) + l.val = 16 * k + l'.val := hh
    omega

/-- A sum over naturals split by quotient and remainder. -/
theorem sum_split {M : Type} [AddCommMonoid M] (a b : ℕ) (f : ℕ → M) :
    (∑ u ∈ Finset.range a, ∑ l : Fin b, f (b * u + l.val)) = ∑ x : Fin (a * b), f x.val := by
  rw [Fin.sum_univ_eq_sum_range f]
  induction a with
  | zero => simp
  | succ a ih =>
    rw [Finset.sum_range_succ, ih, Nat.succ_mul, Finset.sum_range_add, ← Fin.sum_univ_eq_sum_range (fun l => f (a * b + l)) b, mul_comm b a]

/-- Every pixel lies at one place of one tile's walk. -/
theorem pixels_sum (G : S16x1x512x512.Idx → EReal) :
    (∑ w : Fin 32, ∑ row ∈ Finset.range 256, ∑ u ∈ Finset.range 32, ∑ l : Fin 16, G (pix (Fin.ofNat 2 w.val) (Fin.ofNat 16 (w.val / 2)) row (16 * u + l.val)))
      = ∑ y : S16x1x512x512.Idx, G y := by
  have h1 : ∀ (w : Fin 32) (row : ℕ), (∑ u ∈ Finset.range 32, ∑ l : Fin 16, G (pix (Fin.ofNat 2 w.val) (Fin.ofNat 16 (w.val / 2)) row (16 * u + l.val)))
      = ∑ x : Fin 512, G (pix (Fin.ofNat 2 w.val) (Fin.ofNat 16 (w.val / 2)) row x.val) := fun w row =>
    sum_split 32 16 fun x => G (pix (Fin.ofNat 2 w.val) (Fin.ofNat 16 (w.val / 2)) row x)
  simp only [h1]
  have h2 : (∑ w : Fin 32, ∑ row ∈ Finset.range 256, ∑ x : Fin 512, G (pix (Fin.ofNat 2 w.val) (Fin.ofNat 16 (w.val / 2)) row x.val))
      = ∑ s ∈ Finset.range 16, ∑ c : Fin 2, ∑ row ∈ Finset.range 256, ∑ x : Fin 512, G (pix c (Fin.ofNat 16 s) row x.val) := by
    rw [show (32 : ℕ) = 16 * 2 from rfl]
    refine (sum_split 16 2 fun w => ∑ row ∈ Finset.range 256, ∑ x : Fin 512, G (pix (Fin.ofNat 2 w) (Fin.ofNat 16 (w / 2)) row x.val)).symm.trans ?_
    refine Finset.sum_congr rfl fun s _ => Finset.sum_congr rfl fun c _ => ?_
    have hc := c.isLt
    rw [show Fin.ofNat 2 (2 * s + c.val) = c from Fin.ext (by show (2 * s + c.val) % 2 = c.val; omega), show (2 * s + c.val) / 2 = s by omega]
  rw [h2, Finset.sum_range, Idealize.ShloMosaic.sum_idx4]
  refine Finset.sum_congr rfl fun s _ => ?_
  rw [Fin.sum_univ_one (f := fun a : Fin 1 => ∑ r : Fin 512, ∑ x : Fin 512, G (Idealize.ShloMosaic.ix4 s a r x))]
  have h3 : (∑ r : Fin 512, ∑ x : Fin 512, G (Idealize.ShloMosaic.ix4 s 0 r x)) = ∑ c ∈ Finset.range 2, ∑ row : Fin 256, ∑ x : Fin 512, G (Idealize.ShloMosaic.ix4 s 0 (Fin.ofNat 512 (256 * c + row.val)) x) := by
    refine Eq.trans ?_ (sum_split 2 256 fun r => ∑ x : Fin 512, G (Idealize.ShloMosaic.ix4 s 0 (Fin.ofNat 512 r) x)).symm
    refine Finset.sum_congr rfl fun r _ => ?_
    rw [show Fin.ofNat 512 r.val = r from Fin.ext (Nat.mod_eq_of_lt r.isLt)]
  rw [h3, Finset.sum_range]
  refine Finset.sum_congr rfl fun c _ => ?_
  rw [Finset.sum_range]
  refine Finset.sum_congr rfl fun row _ => Finset.sum_congr rfl fun x _ => congrArg G ?_
  unfold pix
  rw [show Fin.ofNat 16 s.val = s from Fin.ext (Nat.mod_eq_of_lt s.isLt), show Fin.ofNat 512 x.val = x from Fin.ext (Nat.mod_eq_of_lt x.isLt)]
  rfl

/-- The cells of bin `k` over all lanes and tiles: the sum over the image's pixels of that bin. -/
theorem bin_sum (T : Vec Ideal S16x1x512x512 .f32) (hT : ∀ y, (0 : EReal) ≤ T y) (v : Fin 2 → Fin 16 → ℕ → ℕ → Vec Ideal S16 .f32)
    (g : S16x1x512x512.Idx → EReal) (hv : ∀ c s row u (l : Fin 16), (v c s row (16 * u) (ix1 l) : EReal) = g (pix c s row (16 * u + l.val))) (k : ℕ) (hk : k < 32) :
    (∑ l' : Fin 16, ∑ w : Fin 32, (hist (F := Ideal) T (Fin.ofNat 2 w.val) (Fin.ofNat 16 (w.val / 2)) (v (Fin.ofNat 2 w.val) (Fin.ofNat 16 (w.val / 2))) 256
        (ix1 ⟨16 * k + l'.val, by have := l'.isLt; omega⟩) : EReal))
      = ∑ y : S16x1x512x512.Idx, if bin (T y) = k then g y else 0 := by
  rw [Finset.sum_comm, ← pixels_sum]
  exact Finset.sum_congr rfl fun w _ => lanes_sum T hT _ _ _ g (hv _ _) k hk

/-- The counted values and the summed ones, pixel by pixel. -/
theorem one_pix (c : Fin 2) (s : Fin 16) (row u : ℕ) (l : Fin 16) : (one (F := Ideal) row (16 * u) (ix1 l) : EReal) = (fun _ => 1 : S16x1x512x512.Idx → EReal) (pix c s row (16 * u + l.val)) :=
  ones_apply _
theorem dif_pix (P T : Vec Ideal S16x1x512x512 .f32) (c : Fin 2) (s : Fin 16) (row u : ℕ) (l : Fin 16) :
    (dif (F := Ideal) P T c s row (16 * u) (ix1 l) : EReal) = (fun y => FloatOps.absf (F := Ideal) (φ := .f32) ((P y : EReal) - (T y : EReal)) : S16x1x512x512.Idx → EReal) (pix c s row (16 * u + l.val)) := by
  have eP : blk (F := Ideal) P c s row (16 * u) (ix1 l) = P (pix c s row (16 * u + l.val)) := blk_apply P c s row (16 * u) l
  have eT : blk (F := Ideal) T c s row (16 * u) (ix1 l) = T (pix c s row (16 * u + l.val)) := blk_apply T c s row (16 * u) l
  show FloatOps.absf (F := Ideal) (φ := .f32) (FloatOps.subf (F := Ideal) (φ := .f32) (blk (F := Ideal) P c s row (16 * u) (ix1 l)) (blk (F := Ideal) T c s row (16 * u) (ix1 l))) = _
  rw [eP, eT]; rfl

end Cert.Proof.Hist
-- ==== Proof.Tail.lean ====
/-
  The host's operations after the call as one value of the histograms' array, and that value at the exact instance.
-/
module

public import proofs.«01_k».proof.Proof.Launch
public import proofs.«01_k».proof.Proof.Sums
@[expose] public section

noncomputable section

namespace Cert.Proof.Hist

open Cert.KernelIdeal Cert.KernelIdeal.Gen

open Idealize.ShloMosaic hiding ix0 ix1 ix2 ix3 ix4 ix5 eq_ix1 eq_ix2 eq_ix3 eq_ix4 sum_idx2
open Idealize.ShloMosaic.ValueIdx
open Idealize.ShloMosaic.StableHlo (after)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "pW" => (Memref.whole Cert.KernelIdeal.main_arg0_scv : Memref Cert.KernelIdeal.sig Kind.scVector Space.hbm Cert.KernelIdeal.S16x1x512x512 EltTy.f32)
local notation "tW" => (Memref.whole Cert.KernelIdeal.main_arg1_scv : Memref Cert.KernelIdeal.sig Kind.scVector Space.hbm Cert.KernelIdeal.S16x1x512x512 EltTy.f32)
local notation "oW" => (Memref.whole Cert.KernelIdeal.main_v0_scv : Memref Cert.KernelIdeal.sig Kind.scVector Space.hbm Cert.KernelIdeal.S32x2x512 EltTy.f32)
local notation "pB" => (Memref.whole Cert.KernelIdeal.cc0_scratch0 : Memref Cert.KernelIdeal.sig Kind.scVector Space.vmem Cert.KernelIdeal.S64x512 EltTy.f32)
local notation "tB" => (Memref.whole Cert.KernelIdeal.cc0_scratch1 : Memref Cert.KernelIdeal.sig Kind.scVector Space.vmem Cert.KernelIdeal.S64x512 EltTy.f32)
local notation "cB" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S512 EltTy.f32)

/-- The histograms added up over the tiles and over each bin's lanes. -/
def binsV (O : FVec F S32x2x512 .f32) : FVec F S2x32 .f32 :=
  Host.reduceAdd (shapeCast S2x32x16 (Host.reduceAdd O (constant S_ .f32 0x00000000#32) reducesTo_S32x2x512_S2x512_d0 h_S_) shapeCasts_S2x512_S2x32x16)
    (constant S_ .f32 0x00000000#32) reducesTo_S2x32x16_S2x32_d2 h_S_
/-- The bins' counts, the bins' sums, and the number of pixels. -/
def cntV (O : FVec F S32x2x512 .f32) : FVec F S31 .f32 := shapeCast S31 (extractStridedSlice S1x31 ![0, 0] (binsV O) slices_S2x32_S1x31_0_0) shapeCasts_S1x31_S31
def sumV (O : FVec F S32x2x512 .f32) : FVec F S31 .f32 := shapeCast S31 (extractStridedSlice S1x31 ![1, 0] (binsV O) slices_S2x32_S1x31_1_0) shapeCasts_S1x31_S31
def totV (O : FVec F S32x2x512 .f32) : FVec F S_ .f32 := Host.reduceAdd (cntV O) (constant S_ .f32 0x00000000#32) reducesTo_S31_S_d0 h_S_
/-- The bins' weights. -/
def wV (O : FVec F S32x2x512 .f32) : FVec F S31 .f32 :=
  Host.divf (broadcastInDim S31 ![] bcast_S_S31 (constant S_ .f32 0x3F800000#32))
    (addf (Host.powf (Host.divf (cntV O) (broadcastInDim S31 ![] bcast_S_S31 (totV O))) (broadcastInDim S31 ![] bcast_S_S31 (constant S_ .f32 0x3F000000#32)))
      (broadcastInDim S31 ![] bcast_S_S31 (constant S_ .f32 0x358637BD#32)))
/-- The loss. -/
def lossV (O : FVec F S32x2x512 .f32) : FVec F S_ .f32 :=
  Host.divf (Host.reduceAdd (mulf (wV O) (sumV O)) (constant S_ .f32 0x00000000#32) reducesTo_S31_S_d0 h_S_) (totV O)

-- the host operations after the call nest one inside another
set_option maxRecDepth 8192 in
/-- The result is the loss of the histograms. -/
theorem resF_eq (m : (ℓ : Loc nD τ sig) → Buf (Elt F) ℓ) (d : Dev nD) : resF m d = lossV (outF m d) := by
  rw [← V1_o m d]
  unfold resF hostOps
  after_results_simp
  rfl

end Cert.Proof.Hist
-- ==== Proof.KVal.lean ====
/-
  The loss the kernel's program computes, at the exact instance: per bin the count and the sum of absolute differences
  over the image's pixels, the bin's weight a function of its share of the pixels.
-/
module

public import proofs.«01_k».proof.Proof.Tail
public import Idealize.ShloMosaic.Lib.Pointwise.Reduce
@[expose] public section

noncomputable section

namespace Cert.Proof.Hist

open Cert.KernelIdeal Cert.KernelIdeal.Gen
open Idealize.ShloMosaic hiding ix0 ix1 ix2 ix3 ix4 ix5 eq_ix1 eq_ix2 eq_ix3 eq_ix4 sum_idx2
open Idealize.ShloMosaic.ValueIdx

/-- The absolute difference at a pixel. -/
def adF (P T : S16x1x512x512.Idx → EReal) (y : S16x1x512x512.Idx) : EReal := FloatOps.absf (F := Ideal) (φ := .f32) (P y - T y)
/-- The number of pixels of bin `k`, and the sum of their absolute differences. -/
def cntF (T : S16x1x512x512.Idx → EReal) (k : ℕ) : EReal := ∑ y, if bin (T y) = k then 1 else 0
def sumF (P T : S16x1x512x512.Idx → EReal) (k : ℕ) : EReal := ∑ y, if bin (T y) = k then adF P T y else 0
/-- The number of pixels. -/
def totF : EReal := ∑ _ : S16x1x512x512.Idx, 1
/-- The weight of a bin of `c` pixels among `n`. -/
def wF (c n : EReal) : EReal :=
  FloatOps.hostDivf (F := Ideal) (φ := .f32) (FloatOps.ofBits .f32 0x3F800000#32)
    (FloatOps.addf (F := Ideal) (φ := .f32) (FloatOps.hostPowf (F := Ideal) (φ := .f32) (FloatOps.hostDivf (F := Ideal) (φ := .f32) c n) (FloatOps.ofBits .f32 0x3F000000#32)) (FloatOps.ofBits .f32 0x358637BD#32))

/-- A host sum's initial value is zero. -/
theorem init_zero (u : Shape) (x : u.Idx) : (constant (F := Ideal) u .f32 0x00000000#32 x : EReal) = 0 := Ideal.ofBits_zero_f32

/-- The bins' table: over the tiles and a bin's lanes, the sum. -/
theorem binsV_apply (O : FVec Ideal S32x2x512 .f32) (r : Fin 2) (k : Fin 32) :
    (binsV (F := Ideal) O (ix2 r k) : EReal) = ∑ l : Fin 16, ∑ w : Fin 32, (O (ix3 w r ⟨16 * k.val + l.val, by have := l.isLt; have := k.isLt; omega⟩) : EReal) := by
  unfold binsV
  refine (Ideal.hostReduceAdd_r3_a2 _ _ _ _).trans ?_
  refine (congrArg (· + _) (init_zero _ _)).trans ((zero_add _).trans (Finset.sum_congr rfl fun l _ => ?_))
  have hl := l.isLt
  have hk := k.isLt
  refine (shapeCast_apply _ _ _ (ix2 r (⟨16 * k.val + l.val, by omega⟩ : Fin 512)) ?_).trans ?_
  · refine (Shape.rowMajor_val_two (ix2 r (⟨16 * k.val + l.val, by omega⟩ : Fin 512))).trans ?_
    refine Eq.trans ?_ (Shape.rowMajor_val_three (ix3 r k l)).symm
    show r.val * 512 + (16 * k.val + l.val) = (r.val * 32 + k.val) * 16 + l.val
    omega
  refine (Ideal.hostReduceAdd_r3_a0 _ _ _ _).trans ?_
  exact (congrArg (· + _) (init_zero _ _)).trans ((zero_add _).trans (Finset.sum_congr rfl fun w _ => rfl))

/-- Row `r` of the table, its first 31 bins. -/
theorem cntV_apply (O : FVec Ideal S32x2x512 .f32) (k : Fin 31) : cntV (F := Ideal) O (ix1 k) = binsV (F := Ideal) O (ix2 (0 : Fin 2) (⟨k.val, by omega⟩ : Fin 32)) := by
  unfold cntV
  refine (shapeCast_apply _ _ _ (ix2 (0 : Fin 1) k) ?_).trans (extractStridedSlice_apply _ _ _ _ _ fun a => ?_)
  · refine (Shape.rowMajor_val_two (ix2 (0 : Fin 1) k)).trans ?_
    refine Eq.trans ?_ (Shape.rowMajor_val_one (ix1 k)).symm
    show 0 * 31 + k.val = k.val
    omega
  · match a with
    | ⟨0, _⟩ => rfl
    | ⟨1, _⟩ => show k.val = 0 + k.val; omega
theorem sumV_apply (O : FVec Ideal S32x2x512 .f32) (k : Fin 31) : sumV (F := Ideal) O (ix1 k) = binsV (F := Ideal) O (ix2 (1 : Fin 2) (⟨k.val, by omega⟩ : Fin 32)) := by
  unfold sumV
  refine (shapeCast_apply _ _ _ (ix2 (0 : Fin 1) k) ?_).trans (extractStridedSlice_apply _ _ _ _ _ fun a => ?_)
  · refine (Shape.rowMajor_val_two (ix2 (0 : Fin 1) k)).trans ?_
    refine Eq.trans ?_ (Shape.rowMajor_val_one (ix1 k)).symm
    show 0 * 31 + k.val = k.val
    omega
  · match a with
    | ⟨0, _⟩ => rfl
    | ⟨1, _⟩ => show k.val = 0 + k.val; omega

variable (P T : Vec Ideal S16x1x512x512 .f32) (hT : ∀ y, (0 : EReal) ≤ T y)
include hT

/-- The kernel's count of a bin. -/
theorem cntV_out (k : Fin 31) : (cntV (F := Ideal) (outV (F := Ideal) P T) (ix1 k) : EReal) = cntF T k.val := by
  rw [cntV_apply]
  refine (binsV_apply _ _ _).trans ?_
  refine Eq.trans ?_ (bin_sum T hT (fun _ _ => one (F := Ideal)) (fun _ => 1) (fun c s row u l => one_pix c s row u l) k.val (by omega))
  exact Finset.sum_congr rfl fun l _ => Finset.sum_congr rfl fun w _ => rfl

/-- The kernel's sum of a bin. -/
theorem sumV_out (k : Fin 31) : (sumV (F := Ideal) (outV (F := Ideal) P T) (ix1 k) : EReal) = sumF P T k.val := by
  rw [sumV_apply]
  refine (binsV_apply _ _ _).trans ?_
  refine Eq.trans ?_ (bin_sum T hT (fun c s => dif (F := Ideal) P T c s) (adF P T) (fun c s row u l => dif_pix P T c s row u l) k.val (by omega))
  exact Finset.sum_congr rfl fun l _ => Finset.sum_congr rfl fun w _ => rfl

/-- The bins' counts add up to the pixels. -/
theorem cntF_sum : (∑ k : Fin 31, cntF T k.val) = totF := by
  unfold cntF totF
  rw [Finset.sum_comm]
  refine Finset.sum_congr rfl fun y _ => ?_
  have hb := (bin_spec (hT y)).1
  rw [Finset.sum_eq_single (⟨bin (T y), hb⟩ : Fin 31)]
  · exact if_pos rfl
  · intro k _ hk
    exact if_neg fun h => hk (Fin.ext h.symm)
  · intro h; exact absurd (Finset.mem_univ _) h

/-- The number of pixels as the kernel's program counts it. -/
theorem totV_out (x : S_.Idx) : (totV (F := Ideal) (outV (F := Ideal) P T) x : EReal) = totF := by
  unfold totV
  refine (Ideal.hostReduceAdd_r1_a0 _ _ _ _).trans ?_
  refine (congrArg (· + _) (init_zero _ _)).trans ((zero_add _).trans ?_)
  rw [← cntF_sum T hT]
  exact Finset.sum_congr rfl fun k _ => cntV_out P T hT k

/-- The weight of a bin as the kernel's program has it. -/
theorem wV_out (k : Fin 31) : (wV (F := Ideal) (outV (F := Ideal) P T) (ix1 k) : EReal) = wF (cntF T k.val) totF := by
  have h : wV (F := Ideal) (outV (F := Ideal) P T) (ix1 k) = wF (cntV (F := Ideal) (outV (F := Ideal) P T) (ix1 k))
    (broadcastInDim S31 ![] bcast_S_S31 (totV (F := Ideal) (outV (F := Ideal) P T)) (ix1 k)) := rfl
  rw [h, cntV_out P T hT]
  exact congrArg _ (totV_out P T hT _)

/-- The kernel's loss. -/
theorem lossV_out (x : S_.Idx) : (lossV (F := Ideal) (outV (F := Ideal) P T) x : EReal)
    = FloatOps.hostDivf (F := Ideal) (φ := .f32) (∑ k : Fin 31, wF (cntF T k.val) totF * sumF P T k.val : EReal) totF := by
  unfold lossV
  refine congrArg₂ (FloatOps.hostDivf (F := Ideal) (φ := .f32)) ?_ (totV_out P T hT x)
  refine (Ideal.hostReduceAdd_r1_a0 _ _ _ _).trans ?_
  refine (congrArg (· + _) (init_zero _ _)).trans ((zero_add _).trans ?_)
  refine Finset.sum_congr rfl fun k _ => ?_
  exact congrArg₂ (fun a b : EReal => a * b) (wV_out P T hT k) (sumV_out P T hT k)

end Cert.Proof.Hist
-- ==== Proof.RefVal.lean ====
/-
  The reference's loss at the exact instance, for targets that are not negative: every pixel is valid, a bin's count is
  the number of its pixels, and each pixel's absolute difference is scaled by its bin's weight.
-/
module

public import proofs.«01_k».proof.Proof.KVal
public import proofs.«01_k».proof.Proof.Gen.ReferenceIdeal.Run
public import Idealize.ShloMosaic.Lib.Routing.OpsPair
public import Idealize.ShloMosaic.Lib.IdealHost
@[expose] public section

noncomputable section

namespace Cert.Proof.Hist

open Cert.ReferenceIdeal Cert.ReferenceIdeal.Gen
open Idealize.ShloMosaic hiding ix0 ix1 ix2 ix3 ix4 ix5 eq_ix1 eq_ix2 eq_ix3 eq_ix4 sum_idx2
open Idealize.ShloMosaic.ValueIdx

/-! ## Where an update lands and what a result reads -/

/-- The entry of the index column an update reads. -/
theorem scat_start (i : S4194304.Idx) (idx : IVec S4194304x1 32) :
    scatter_S31_S4194304x1_S4194304_n_0_0_1.start i idx 0 = (idx (ix2 (i 0) (0 : Fin 1))).toInt := by
  unfold ScatterDims.start
  refine (dif_pos (show (0 : Fin 1) ∈ [(0 : Fin 1)] from List.mem_singleton.2 rfl)).trans ?_
  refine congrArg (fun y => (idx y).toInt) (funext fun b => ?_)
  match b with
  | ⟨0, _⟩ => rfl
  | ⟨1, _⟩ => rfl

/-- An update has no window. -/
theorem scat_window (i : S4194304.Idx) : scatter_S31_S4194304x1_S4194304_n_0_0_1.window i 0 = 0 := by
  unfold ScatterDims.window
  exact dif_neg (by decide)

/-- The update at `i` lands at entry `k` if and only if its index is `k`. -/
theorem scat_lands (i : S4194304.Idx) (idx : IVec S4194304x1 32) (k : Fin 31) :
    scatter_S31_S4194304x1_S4194304_n_0_0_1.resultIdx? i idx = some (ix1 k) ↔ (idx (ix2 (i 0) (0 : Fin 1))).toInt = (k.val : ℤ) := by
  refine (Routing.resultIdx?_ix1 _ _ _ _).trans ?_
  rw [scat_start, scat_window]
  simp

/-- The result at a pixel reads the table at the pixel's index, read signed and clamped. -/
theorem gath_apply (x : FVec Ideal S31 .f32) (idx : IVec S16x1x512x512x1 32) (y : S16x1x512x512.Idx) (k : Fin 31)
    (hk : idx (ix5 (y 0) (y 1) (y 2) (y 3) (0 : Fin 1)) = BitVec.ofNat 32 k.val) :
    Host.gather gather_S31_S16x1x512x512x1_S16x1x512x512_n_0_n_n_0_4_1 x idx y = x (ix1 k) := by
  unfold Host.gather
  refine congrArg x (funext fun a => ?_)
  have ha0 : a = 0 := Subsingleton.elim _ _
  subst ha0
  apply Fin.ext
  unfold GatherDims.operandIdx
  show GatherDims.start _ y idx 0 + GatherDims.batchCoord _ y 0 + GatherDims.offCoord _ y 0 = k.val
  rw [GatherDims.batchCoord_eq_zero _ _ _ (by decide), GatherDims.offCoord_eq_zero _ _ _ (by decide)]
  unfold GatherDims.start
  refine (congrArg (· + 0 + 0) (dif_pos (show (0 : Fin 1) ∈ [(0 : Fin 1)] from List.mem_singleton.2 rfl))).trans ?_
  have e : gather_S31_S16x1x512x512x1_S16x1x512x512_n_0_n_n_0_4_1.siIdx y ⟨[(0 : Fin 1)].idxOf 0, by decide⟩ = ix5 (y 0) (y 1) (y 2) (y 3) (0 : Fin 1) := by
    funext b
    match b with
    | ⟨0, _⟩ => rfl
    | ⟨1, _⟩ => rfl
    | ⟨2, _⟩ => rfl
    | ⟨3, _⟩ => rfl
    | ⟨4, _⟩ => rfl
  have h := k.isLt
  have e2 : (idx (gather_S31_S16x1x512x512x1_S16x1x512x512_n_0_n_n_0_4_1.siIdx y ⟨[(0 : Fin 1)].idxOf 0, by decide⟩)).toInt = (k.val : ℤ) := by
    rw [e]
    exact (congrArg BitVec.toInt hk).trans (WordCmp.toInt_ofNat_of_lt (w := 32) (by omega))
  refine (congrArg (fun z : ℤ => min z.toNat (31 - 1) + 0 + 0) e2).trans ?_
  show min ((k.val : ℤ)).toNat 30 = k.val
  rw [Int.toNat_natCast]
  omega

/-! ## Sums over any shape -/

/-- A host sum over every axis, from zero, is the sum over all indices. -/
theorem total_zero {s t : Shape} {axes : List (Fin s.rank)} (h : s.ReducesTo axes t) (ht : ∀ b, t.size b = 1) (x : FVec Ideal s .f32) (u : Shape) (hu : 0 < u.numel) (j : t.Idx) :
    (Host.reduceAdd x (constant (F := Ideal) u .f32 0x00000000#32) h hu j : EReal) = ∑ i : s.Idx, (x i : EReal) :=
  (Ideal.hostReduceAdd_total h ht x _ j).trans ((congrArg (· + _) (init_zero _ _)).trans (zero_add _))

/-- A scatter of ones: at an entry, its start value and one per update that lands there. -/
theorem scatter_flat {s si su v : Shape} (d : ScatterDims s si su) (x : FVec Ideal s .f32) (idx : IVec si 32) (upd : FVec Ideal v .f32) (hc : v.ShapeCasts su)
    (i : s.Idx) (g : v.Idx → EReal) (hx : (x i : EReal) = 0) (hg : ∀ j, (if d.resultIdx? j idx = some i then (upd (Shape.reshapeEquiv hc j) : EReal) else 0) = g (Shape.reshapeEquiv hc j)) :
    (Host.scatterAdd d x idx (shapeCast _ upd hc) i : EReal) = ∑ y, g y := by
  have e : (Host.scatterAdd d x idx (shapeCast _ upd hc) i : EReal)
    = (x i : EReal) + ∑ j ∈ Finset.univ.filter (fun j => d.resultIdx? j idx = some i), (upd (Shape.reshapeEquiv hc j) : EReal) := rfl
  rw [e, hx, zero_add, Finset.sum_filter]
  exact (Finset.sum_congr rfl fun j _ => hg j).trans (Equiv.sum_comp (Shape.reshapeEquiv hc) g)

/-- A bin's weight from its count and the number of pixels. -/
theorem weight_apply (C : FVec Ideal S31 .f32) (N : FVec Ideal S_ .f32) (k : Fin 31) (c n : EReal) (hc : (C (ix1 k) : EReal) = c) (hn : ∀ x, (N x : EReal) = n) :
    (Host.divf (broadcastInDim S31 ![] bcast_S_S31 (constant (F := Ideal) S_ .f32 0x3F800000#32)) (addf (Host.powf (Host.divf C (broadcastInDim S31 ![] bcast_S_S31 N)) (broadcastInDim S31 ![] bcast_S_S31 (constant S_ .f32 0x3F000000#32))) (broadcastInDim S31 ![] bcast_S_S31 (constant S_ .f32 0x358637BD#32))) (ix1 k) : EReal)
      = wF c n := by
  subst hc
  obtain rfl : N = fun _ => n := funext hn
  rfl

/-- A pixel's term from its weight, where it is valid. -/
theorem term_apply (D G V : FVec Ideal S16x1x512x512 .f32) (y : S16x1x512x512.Idx) (a g : EReal) (ha : (Host.absf D y : EReal) = a) (hg : (G y : EReal) = g) (hv : (V y : EReal) = 1) :
    (mulf (mulf (Host.absf D) G) V y : EReal) = a * g := by
  have e : (mulf (mulf (Host.absf D) G) V y : EReal) = (Host.absf D y : EReal) * (G y : EReal) * (V y : EReal) := rfl
  rw [e, ha, hg, hv, mul_one]

/-- A mean: the sum of the terms over the number of pixels. -/
theorem mean_apply {s : Shape} {axes : List (Fin s.rank)} (h : s.ReducesTo axes S_) (X : FVec Ideal s .f32) (N : FVec Ideal S_ .f32) (hu : 0 < S_.numel) (x : S_.Idx) (g : s.Idx → EReal) (n : EReal)
    (hX : ∀ y, (X y : EReal) = g y) (hn : ∀ x, (N x : EReal) = n) :
    (Host.divf (Host.reduceAdd X (constant (F := Ideal) S_ .f32 0x00000000#32) h hu) N x : EReal) = FloatOps.hostDivf (F := Ideal) (φ := .f32) (∑ y, g y : EReal) n := by
  have e := (total_zero h (fun b => b.elim0) X S_ hu x).trans (Finset.sum_congr rfl fun y _ => hX y)
  exact congrArg₂ (FloatOps.hostDivf (F := Ideal) (φ := .f32)) e (hn x)

/-! ## The reference's parts -/

variable (P T : FVec Ideal S16x1x512x512 .f32)

/-- Where the target is valid, as a one or a zero. -/
def rMask : IVec S16x1x512x512 1 := cmpf .une T (broadcastInDim S16x1x512x512 ![] bcast_S_S16x1x512x512 (constant S_ .f32 0xBF800000#32))
def rValid : FVec Ideal S16x1x512x512 .f32 := uitofp .f32 (rMask T)
/-- The bins. -/
def rBins : IVec S16x1x512x512 32 :=
  minsi (broadcastInDim S16x1x512x512 ![] bcast_S_S16x1x512x512 (id (constantI S_ 32 30#32))) (maxsi (broadcastInDim S16x1x512x512 ![] bcast_S_S16x1x512x512 (id (constantI S_ 32 0#32))) (fptosi 32 (Host.floor (Host.expm1 T))))
/-- The flat bins the counts go by. -/
def rFlat : IVec S4194304 32 :=
  maxsi (broadcastInDim S4194304 ![] bcast_S_S4194304 (id (constantI S_ 32 0#32))) (shapeCast _ (select (rMask T) (rBins T) (broadcastInDim S16x1x512x512 ![] bcast_S_S16x1x512x512 (id (constantI S_ 32 0#32)))) shapeCasts_S16x1x512x512_S4194304)
def rIdxC : IVec S4194304x1 32 :=
  broadcastInDim S4194304x1 ![0] bcast_S4194304_S4194304x1_0 (select (cmpi .slt (rFlat T) (broadcastInDim S4194304 ![] bcast_S_S4194304 (constantI S_ 32 0#32))) (addi (rFlat T) (broadcastInDim S4194304 ![] bcast_S_S4194304 (constantI S_ 32 31#32))) (rFlat T))
/-- The counts. -/
def rCnt : FVec Ideal S31 .f32 :=
  Host.scatterAdd scatter_S31_S4194304x1_S4194304_n_0_0_1 (broadcastInDim S31 ![] bcast_S_S31 (constant S_ .f32 0x00000000#32)) (rIdxC T) (shapeCast _ (rValid T) shapeCasts_S16x1x512x512_S4194304)
/-- The number of valid pixels. -/
def rTot : FVec Ideal S_ .f32 := Host.reduceAdd (rValid T) (constant S_ .f32 0x00000000#32) reducesTo_S16x1x512x512_S_d0_1_2_3 h_S_
/-- The bins' weights. -/
def rW : FVec Ideal S31 .f32 :=
  Host.divf (broadcastInDim S31 ![] bcast_S_S31 (constant S_ .f32 0x3F800000#32)) (addf (Host.powf (Host.divf (rCnt T) (broadcastInDim S31 ![] bcast_S_S31 (rTot T))) (broadcastInDim S31 ![] bcast_S_S31 (constant S_ .f32 0x3F000000#32))) (broadcastInDim S31 ![] bcast_S_S31 (constant S_ .f32 0x358637BD#32)))
def rIdxG : IVec S16x1x512x512x1 32 :=
  broadcastInDim S16x1x512x512x1 ![0, 1, 2, 3] bcast_S16x1x512x512_S16x1x512x512x1_0_1_2_3 (select (cmpi .slt (rBins T) (broadcastInDim S16x1x512x512 ![] bcast_S_S16x1x512x512 (constantI S_ 32 0#32))) (addi (rBins T) (broadcastInDim S16x1x512x512 ![] bcast_S_S16x1x512x512 (constantI S_ 32 31#32))) (rBins T))
/-- The loss. -/
def rLoss : FVec Ideal S_ .f32 :=
  Host.divf (Host.reduceAdd (mulf (mulf (Host.absf (subf P T)) (Host.gather gather_S31_S16x1x512x512x1_S16x1x512x512_n_0_n_n_0_4_1 (rW T) (rIdxG T))) (rValid T)) (constant S_ .f32 0x00000000#32) reducesTo_S16x1x512x512_S_d0_1_2_3 h_S_) (rTot T)

/-- The reference's run leaves that loss. -/
theorem res_eq (m : (ℓ : Loc nD τ sig) → Buf (Elt Ideal) ℓ) (c : Dev nD) :
    Value.res_main_v40 (F := Ideal) m c = rLoss (m ((c.tc : Thread nD τ).loc main_arg0)) (m ((c.tc : Thread nD τ).loc main_arg1)) := rfl

/-- The absolute difference at a pixel, as the reference has it. -/
theorem rAbs_apply (y : S16x1x512x512.Idx) : (Host.absf (subf P T) y : EReal) = adF P T y := rfl

variable (hT : ∀ y, (0 : EReal) ≤ T y)
include hT

/-- A target that is not negative is valid. -/
theorem rMask_apply (y : S16x1x512x512.Idx) : rMask T y = 1#1 := by
  have h1 : Ideal.ofBits .f32 0xBF800000#32 < (0 : EReal) := by
    have e : Ideal.ofBits .f32 0xBF800000#32 = ((-1 : ℝ) : EReal) := by
      simp [Ideal.ofBits, Ideal.ieee, -EReal.coe_mul, -EReal.coe_neg]; norm_num
    rw [e]
    exact_mod_cast (by norm_num : (-1 : ℝ) < 0)
  have h : (T y : EReal) ≠ Ideal.ofBits .f32 0xBF800000#32 := (h1.trans_le (hT y)).ne'
  show BitVec.ofBool (decide ((T y : EReal) ≠ Ideal.ofBits .f32 0xBF800000#32)) = 1#1
  rw [decide_eq_true h]
  rfl
theorem rValid_apply (y : S16x1x512x512.Idx) : (rValid T y : EReal) = 1 := by
  show (((rMask T y).toNat : ℝ) : EReal) = 1
  rw [rMask_apply T hT y]
  norm_num

/-- The bin of a pixel, as its word. -/
theorem rBins_apply (y : S16x1x512x512.Idx) : rBins T y = BitVec.ofNat 32 (bin (T y)) := (bin_spec (hT y)).2.1

/-- The flat bins hold the pixels' bins. -/
theorem rFlat_apply (i : S4194304.Idx) : rFlat T i = BitVec.ofNat 32 (bin (T (Shape.reshapeEquiv shapeCasts_S16x1x512x512_S4194304 i))) := by
  have h := (bin_spec (hT (Shape.reshapeEquiv shapeCasts_S16x1x512x512_S4194304 i))).1
  show IntOp.maxsi 0#32 (Scalar.select (rMask T _) (rBins T _) 0#32) = _
  rw [rMask_apply T hT, rBins_apply T hT]
  show IntOp.maxsi (BitVec.ofNat 32 0) (BitVec.ofNat 32 _) = _
  unfold IntOp.maxsi
  rw [Routing.slt_ofNat32 (by omega) (by omega)]
  by_cases h0 : bin (T (Shape.reshapeEquiv shapeCasts_S16x1x512x512_S4194304 i)) = 0
  · rw [h0]; rfl
  · simp [h0]

theorem rIdxC_apply (i : S4194304.Idx) : (rIdxC T (ix2 (i 0) (0 : Fin 1))).toInt = (bin (T (Shape.reshapeEquiv shapeCasts_S16x1x512x512_S4194304 i)) : ℤ) := by
  have h := (bin_spec (hT (Shape.reshapeEquiv shapeCasts_S16x1x512x512_S4194304 i))).1
  have e : rIdxC T (ix2 (i 0) (0 : Fin 1)) = rFlat T i := by
    unfold rIdxC
    refine (broadcastInDim_apply _ _ _ _ i fun a => ?_).trans ?_
    · match a with
      | ⟨0, _⟩ => rfl
    · refine (Routing.wrap_of_lt (rFlat T i) _ ?_)
      rw [rFlat_apply T hT, BitVec.toNat_ofNat]
      omega
  rw [e, rFlat_apply T hT]
  exact WordCmp.toInt_ofNat_of_lt (w := 32) (by omega)

/-- The reference's count of a bin. -/
theorem rCnt_apply (k : Fin 31) : (rCnt T (ix1 k) : EReal) = cntF T k.val := by
  refine scatter_flat _ _ _ _ _ _ (fun y => if bin (T y) = k.val then (1 : EReal) else 0) Ideal.ofBits_zero_f32 fun j => ?_
  rw [rValid_apply T hT]
  refine if_congr ?_ rfl rfl
  rw [scat_lands, rIdxC_apply T hT]
  exact Int.natCast_inj

/-- Every pixel counts. -/
theorem rTot_apply (x : S_.Idx) : (rTot T x : EReal) = totF := by
  unfold rTot
  refine (total_zero _ (fun b => b.elim0) _ _ _ _).trans ?_
  exact Finset.sum_congr rfl fun y _ => rValid_apply T hT y

/-- The weight of a bin as the reference has it. -/
theorem rW_apply (k : Fin 31) : (rW T (ix1 k) : EReal) = wF (cntF T k.val) totF := by
  unfold rW
  exact weight_apply _ _ k _ _ (rCnt_apply T hT k) (rTot_apply T hT)

/-- The weight a pixel reads is its bin's. -/
theorem rGath_apply (y : S16x1x512x512.Idx) :
    (Host.gather gather_S31_S16x1x512x512x1_S16x1x512x512_n_0_n_n_0_4_1 (rW T) (rIdxG T) y : EReal) = wF (cntF T (bin (T y))) totF := by
  have h := (bin_spec (hT y)).1
  refine (gath_apply _ _ y ⟨bin (T y), h⟩ ?_).trans (rW_apply T hT ⟨bin (T y), h⟩)
  unfold rIdxG
  refine (broadcastInDim_apply _ _ _ _ y fun a => ?_).trans ?_
  · match a with
    | ⟨0, _⟩ => rfl
    | ⟨1, _⟩ => exact Nat.lt_one_iff.1 (y 1).isLt
    | ⟨2, _⟩ => rfl
    | ⟨3, _⟩ => rfl
  · refine (Routing.wrap_of_lt (rBins T y) _ ?_).trans (rBins_apply T hT y)
    rw [rBins_apply T hT, BitVec.toNat_ofNat]
    omega

/-- The reference's loss. -/
theorem rLoss_apply (x : S_.Idx) : (rLoss P T x : EReal)
    = FloatOps.hostDivf (F := Ideal) (φ := .f32) (∑ y, adF P T y * wF (cntF T (bin (T y))) totF : EReal) totF := by
  unfold rLoss
  exact mean_apply _ _ _ _ x _ _ (fun y => term_apply _ _ _ y _ _ (rAbs_apply P T y) (rGath_apply T hT y) (rValid_apply T hT y)) (rTot_apply T hT)

end Cert.Proof.Hist
-- ==== Proof.Value.lean ====
/-
  The kernel's loss is the reference's, for targets that are not negative.
-/
module

public import proofs.«01_k».proof.Proof.RefVal
@[expose] public section

noncomputable section

namespace Cert.Proof.Hist

open Cert.KernelIdeal Cert.KernelIdeal.Gen
open Idealize.ShloMosaic

/-- A factor of any sign goes into a sum of terms that are not negative. -/
theorem mul_sum_nonneg {ι : Type} (s : Finset ι) (c : EReal) (f : ι → EReal) (hf : ∀ i, 0 ≤ f i) : c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

/-- An absolute difference is not negative. -/
theorem adF_nonneg (P T : S16x1x512x512.Idx → EReal) (y : S16x1x512x512.Idx) : 0 ≤ adF P T y := by
  show (0 : EReal) ≤ max (P y - T y) (-(P y - T y))
  rcases le_total 0 (P y - T y) with h | h
  · exact h.trans (le_max_left _ _)
  · exact (EReal.neg_nonneg.2 h).trans (le_max_right _ _)

/-- The terms bin by bin are the terms pixel by pixel. -/
theorem terms_eq (P T : S16x1x512x512.Idx → EReal) (hT : ∀ y, 0 ≤ T y) (w : ℕ → EReal) :
    (∑ k : Fin 31, w k.val * sumF P T k.val) = ∑ y, adF P T y * w (bin (T y)) := by
  have h1 : ∀ k : Fin 31, w k.val * sumF P T k.val = ∑ y, if bin (T y) = k.val then w k.val * adF P T y else 0 := fun k => by
    unfold sumF
    rw [mul_sum_nonneg]
    · exact Finset.sum_congr rfl fun y _ => by rw [mul_ite, mul_zero]
    · intro y
      split
      · exact adF_nonneg P T y
      · exact le_refl _
  rw [Finset.sum_congr rfl fun k _ => h1 k, Finset.sum_comm]
  refine Finset.sum_congr rfl fun y _ => ?_
  have hb := (bin_spec (hT y)).1
  rw [Finset.sum_eq_single (⟨bin (T y), hb⟩ : Fin 31)]
  · rw [if_pos rfl, mul_comm]
  · intro k _ hk
    exact if_neg fun h => hk (Fin.ext h.symm)
  · intro h; exact absurd (Finset.mem_univ _) h

/-- The two losses agree. -/
theorem loss_eq (P T : Vec Ideal S16x1x512x512 .f32) (hT : ∀ y, (0 : EReal) ≤ T y) (x : S_.Idx) :
    (lossV (F := Ideal) (outV (F := Ideal) P T) x : EReal) = rLoss P T x := by
  refine (lossV_out P T hT x).trans (Eq.trans ?_ (rLoss_apply P T hT x).symm)
  rw [terms_eq P T hT (fun k => wF (cntF T k) totF)]

end Cert.Proof.Hist
-- ==== Proof.Claims.lean ====
/-
  The claims: the kernel's program and the reference run, and the kernel's loss is the reference's.
-/
module

public import proofs.«01_k».proof.Defs
public import proofs.«01_k».proof.Proof.Value
public import proofs.«01_k».proof.Proof.Gen.Pre_at_least_zero
public import Idealize.ShloMosaic.Lib.ReduceAll
public import Idealize.ShloMosaic.Lib.StableHlo.RunHlo
@[expose] public section

noncomputable section

namespace Cert.Proof.Hist

open Idealize.ShloMosaic Idealize.ShloMosaic.TcCoe Idealize.SL.Sem

/-- The precondition's one bit says that no target is negative. -/
theorem pre_nonneg (P T : FVec Ideal Cert.Pre_at_least_zero.S16x1x512x512 .f32)
    (h : Cert.Pre_at_least_zero.fn (F := Ideal) P T = fun _ => 1#1) (y : Cert.Pre_at_least_zero.S16x1x512x512.Idx) : (0 : EReal) ≤ T y := by
  haveI : Subsingleton Cert.Pre_at_least_zero.S_.Idx := ⟨fun a b => funext fun i => i.elim0⟩
  have e := Host.reduce_andi_all _ _ _ _ _ (congrFun h (fun i => i.elim0)) y
  by_contra hn
  have e2 : BitVec.ofBool (decide (Ideal.ofBits .f32 0x00000000#32 ≤ (T y : EReal))) = 1#1 := e
  rw [Ideal.ofBits_zero_f32, decide_eq_false hn] at e2
  exact absurd e2 (by decide)

/-- The kernel's program runs to its loss. -/
theorem kernel_run (m : (ℓ : Loc Cert.KernelIdeal.nD Cert.KernelIdeal.τ Cert.KernelIdeal.sig) → Buf (Elt Ideal) ℓ) (g : Dev Cert.KernelIdeal.nD → PrngReg)
    (hT : ∀ d y, (0 : EReal) ≤ m (tLoc d) y) :
    θ_run (Cert.KernelIdeal.defs (F := Ideal)) (Cert.KernelIdeal.threads (F := Ideal)) ⟨m, fun _ => 0, g⟩ (QC (F := Ideal) m) :=
  run_main m g fun d => allIn (m (tLoc d)) (hT d)

/-- The kernel's program runs, its images end as they were, every counter at zero. -/
theorem frame_kernel : Cert.quiescent_KernelIdeal := by
  intro m g hpre
  exact θ_run_mono (kernel_run m g fun d => pre_nonneg _ _ (hpre d)) fun r h => ⟨fun c => ⟨(h.1 c).1, (h.1 c).2.1⟩, h.2⟩

/-- The reference runs, its images end as they were, every counter at zero. -/
theorem frame_reference : Cert.quiescent_ReferenceIdeal := by
  intro m g _
  exact θ_run_mono (Cert.ReferenceIdeal.Value.run (F := Ideal) m g) fun r h => ⟨fun c => (h c).2, sem_eq_zero_of_no_sems (by decide) r.2⟩

/-- The same of targets that are not negative. -/
theorem frame_reference_pre : Cert.quiescent_ReferenceIdeal_pre_at_least_zero := fun m g _ => frame_reference m g trivial

/-- From the same images, with no target negative, the kernel's loss and the reference's are the same. -/
theorem algebraic : Cert.algebraic_KernelIdeal_ReferenceIdeal := by
  intro m g m' g' hpre hag
  have hT : ∀ d y, (0 : EReal) ≤ m (tLoc d) y := fun d => pre_nonneg _ _ (hpre d)
  refine ⟨fun c => resF m c, θ_run_mono (kernel_run m g hT) fun r h c => ⟨(h.1 c).2.2, (h.1 c).1, (h.1 c).2.1⟩,
    θ_run_mono (Cert.ReferenceIdeal.Value.run (F := Ideal) m' g') fun r h c => ⟨(h c).1.trans ?_, (h c).2⟩⟩
  refine (res_eq m' c).trans ?_
  rw [(hag c).1, (hag c).2]
  exact (funext fun x => loss_eq (m (pLoc c)) (m (tLoc c)) (hT c) x).symm.trans (resF_eq m c).symm

end Cert.Proof.Hist
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_at_least_zero
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_at_least_zero.Gen.facts,
  Hist.frame_kernel, Hist.frame_reference, Hist.frame_reference_pre, Hist.algebraic⟩

end Cert.Proof

end
